-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "eps_less_conf" .f32 0xBF666632#32 ((-28799 / 31999 : ℝ) : EReal)
  ∧ IdealRules.named_const.Statement Cert.KernelIdeal.κ "eps" .f32 0x3651B8C5#32 ((1 / 319990 : ℝ) : EReal)
  ∧ IdealRules.named_const.Statement Cert.KernelIdeal.κ "row_entropy" .f32 0xBFAE6413#32 (((1 / 10) * (Real.log (387420489 / 319990000000000)) : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2048x32000 : Shape := ⟨2, ![2048, 32000]⟩
abbrev S2048 : Shape := ⟨1, ![2048]⟩
abbrev S_ : Shape := ⟨0, ![]⟩

class Facts : Prop where
  bcast_S_S2048x32000 : S_.BroadcastsInDim S2048x32000 (![] : Fin 0 → Fin S2048x32000.rank)
  reducesTo_S2048x32000_S_d0_1 : S2048x32000.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x32000 .f32) (main_arg1 : IVec S2048 32) : IVec S_ 1 :=
  let main_v0 : FVec F S2048x32000 .f32 := Host.absf main_arg0
  let main_cst : FVec F S_ .f32 := constant S_ .f32 0x7F800000#32
  let main_v1 : FVec F S2048x32000 .f32 := broadcastInDim S2048x32000 ![] bcast_S_S2048x32000 main_cst
  let main_v2 : IVec S2048x32000 1 := cmpf .olt main_v0 main_v1
  let main_c : IVec S_ 1 := constantI S_ 1 1#1
  let main_v3 : IVec S_ 1 := (fun x v => Host.reduce IntOp.andi x v reducesTo_S2048x32000_S_d0_1 h_S_) main_v2 main_c
  let main_c_0 : IVec S_ 32 := constantI S_ 32 0#32
  let main_v4 : IVec S2048 32 := broadcastInDim S2048 ![] bcast_S_S2048 main_c_0
  let main_v5 : IVec S2048 1 := cmpi .sge main_arg1 main_v4
  let main_c_1 : IVec S_ 1 := constantI S_ 1 1#1
  let main_v6 : IVec S_ 1 := (fun x v => Host.reduce IntOp.andi x v reducesTo_S2048_S_d0 h_S_) main_v5 main_c_1
  let main_v7 : IVec S_ 1 := andi main_v3 main_v6
  let main_c_2 : IVec S_ 32 := constantI S_ 32 32000#32
  let main_v8 : IVec S2048 32 := broadcastInDim S2048 ![] bcast_S_S2048 main_c_2
  let main_v9 : IVec S2048 1 := cmpi .slt main_arg1 main_v8
  let main_c_3 : IVec S_ 1 := constantI S_ 1 1#1
  let main_v10 : IVec S_ 1 := (fun x v => Host.reduce IntOp.andi x v reducesTo_S2048_S_d0 h_S_) main_v9 main_c_3
  let main_v11 : IVec S_ 1 := andi main_v7 main_v10
  main_v11
-- ==== Kernel.lean ====
abbrev S2048x32000 : Shape := ⟨2, ![2048, 32000]⟩
abbrev S2048 : Shape := ⟨1, ![2048]⟩
abbrev S16x1x128 : Shape := ⟨3, ![16, 1, 128]⟩
abbrev S128x32000 : Shape := ⟨2, ![128, 32000]⟩
abbrev S1x1x128 : Shape := ⟨3, ![1, 1, 128]⟩
abbrev S128 : Shape := ⟨1, ![128]⟩
abbrev S128x1 : Shape := ⟨2, ![128, 1]⟩
abbrev S16x2x16 : Shape := ⟨3, ![16, 2, 16]⟩
abbrev S2x16 : Shape := ⟨2, ![2, 16]⟩
abbrev S_ : Shape := ⟨0, ![]⟩
abbrev S16 : Shape := ⟨1, ![16]⟩
abbrev S1x16 : Shape := ⟨2, ![1, 16]⟩
abbrev S1x2x16 : Shape := ⟨3, ![1, 2, 16]⟩
abbrev S1x1 : Shape := ⟨2, ![1, 1]⟩
abbrev S16x1x16 : Shape := ⟨3, ![16, 1, 16]⟩
abbrev S16x16 : Shape := ⟨2, ![16, 16]⟩
abbrev S1x16x16 : Shape := ⟨3, ![1, 16, 16]⟩
abbrev S1 : Shape := ⟨1, ![1]⟩
abbrev S1x1x1 : Shape := ⟨3, ![1, 1, 1]⟩

abbrev nBuf : Table → Nat
  | .hbm => 10
  | .local .tc .vmem => 9
  | .local .tc .smem => 1
  | .local .scVector .vmem => 4
  | _ => 0

abbrev bufTy : (tb : Table) → Fin (nBuf tb) → BufTy
  | .hbm, ⟨0, _⟩ => ⟨S2048x32000, .f32⟩
  | .hbm, ⟨1, _⟩ => ⟨S2048, .i32⟩
  | .hbm, ⟨2, _⟩ => ⟨S16x1x128, .i32⟩
  | .hbm, ⟨3, _⟩ => ⟨S16x1x128, .f32⟩
  | .hbm, ⟨4, _⟩ => ⟨S16x1x128, .f32⟩
  | .hbm, ⟨5, _⟩ => ⟨S2048, .f32⟩
  | .hbm, ⟨6, _⟩ => ⟨S2048, .f32⟩
  | .hbm, ⟨7, _⟩ => ⟨S16x2x16, .f32⟩
  | .hbm, ⟨8, _⟩ => ⟨S1x1, .f32⟩
  | .hbm, ⟨9, _⟩ => ⟨S_, .f32⟩
  | .local .tc .vmem, ⟨0, _⟩ => ⟨S128x32000, .f32⟩
  | .local .tc .vmem, ⟨1, _⟩ => ⟨S128x32000, .f32⟩
  | .local .tc .vmem, ⟨2, _⟩ => ⟨S1x1x128, .i32⟩
  | .local .tc .vmem, ⟨3, _⟩ => ⟨S1x1x128, .i32⟩
  | .local .tc .vmem, ⟨4, _⟩ => ⟨S1x1x128, .f32⟩
  | .local .tc .vmem, ⟨5, _⟩ => ⟨S1x1x128, .f32⟩
  | .local .tc .vmem, ⟨6, _⟩ => ⟨S1x1x128, .f32⟩
  | .local .tc .vmem, ⟨7, _⟩ => ⟨S1x1x128, .f32⟩
  | .local .tc .vmem, ⟨8, _⟩ => ⟨S16x2x16, .f32⟩
  | .local .tc .smem, ⟨0, _⟩ => ⟨S1x1, .f32⟩
  | .local .scVector .vmem, ⟨0, _⟩ => ⟨S128, .f32⟩
  | .local .scVector .vmem, ⟨1, _⟩ => ⟨S128, .f32⟩
  | .local .scVector .vmem, ⟨2, _⟩ => ⟨S128, .i32⟩
  | .local .scVector .vmem, ⟨3, _⟩ => ⟨S2x16, .f32⟩
  | _, _ => ⟨S2048x32000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v2_scv : Ref sig .scVector := ⟨.hbm, 5, rfl⟩
abbrev main_v3_scv : Ref sig .scVector := ⟨.hbm, 6, rfl⟩
abbrev main_arg1_scv : Ref sig .scVector := ⟨.hbm, 1, rfl⟩
abbrev main_v4_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc2_stg0_0 : Ref sig .tc := ⟨.vmem, 8, rfl⟩
abbrev cc2_stg1_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc2_sem0_0 : DmaSem sig := 12
abbrev cc2_sem1_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![1, 16], ![false, false]⟩

def k1_off1 (i : grid1.Coords) : Fin 1 → Nat :=
  let arg1 : BitVec 32 := BitVec.ofNat 32 (i 1).val
  let c128_i32 : BitVec 32 := 128#32
  let v0 : BitVec 32 := Scalar.muli arg1 c128_i32
  ![v0.toNat]
def k1_off2 (i : grid1.Coords) : Fin 3 → Nat :=
  let arg1 : BitVec 32 := BitVec.ofNat 32 (i 1).val
  let c0_i32_67_r3 : BitVec 32 := 0#32
  let c0_i32_68_r3 : BitVec 32 := 0#32
  ![arg1.toNat, 0, 0]
abbrev grid2 : Pipeline.Grid := .none

abbrev stage2_0 : Fin 1 → Memref sig .tc .vmem S16x2x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "eps" => some ((1 / 319990 : ℝ) : EReal)
  | "eps_less_conf" => some ((-28799 / 31999 : ℝ) : EReal)
  | "row_entropy" => some (((1 / 10) * (Real.log (387420489 / 319990000000000)) : ℝ) : EReal)
  | _ => none
-- ==== ReferenceIdeal.lean ====
abbrev S2048x32000 : Shape := ⟨2, ![2048, 32000]⟩
abbrev S2048 : Shape := ⟨1, ![2048]⟩
abbrev S_ : Shape := ⟨0, ![]⟩
abbrev S2048x1 : Shape := ⟨2, ![2048, 1]⟩
abbrev S2048x2 : Shape := ⟨2, ![2048, 2]⟩

abbrev nBuf : Space → Nat
  | .hbm => 52
  | .vmem => 0
  | .smem => 0
  | _ => 0

abbrev bufTy : (tb : Table) → Fin (tcTables nBuf tb) → BufTy
  | .hbm, ⟨0, _⟩ => ⟨S2048x32000, .f32⟩
  | .hbm, ⟨1, _⟩ => ⟨S2048, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048x32000, .f32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S2048, .i32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S_, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S2048x1, .i32⟩
  | .hbm, ⟨37, _⟩ => ⟨S2048x1, .i32⟩
  | .hbm, ⟨38, _⟩ => ⟨S2048x2, .i32⟩
  | .hbm, ⟨39, _⟩ => ⟨S2048, .f32⟩
  | .hbm, ⟨40, _⟩ => ⟨S2048x32000, .f32⟩
  | .hbm, ⟨41, _⟩ => ⟨S2048x32000, .f32⟩
  | .hbm, ⟨42, _⟩ => ⟨S2048x32000, .f32⟩
  | .hbm, ⟨43, _⟩ => ⟨S2048x32000, .f32⟩
  | .hbm, ⟨44, _⟩ => ⟨S2048x1, .i1⟩
  | .hbm, ⟨45, _⟩ => ⟨S_, .f32⟩
  | .hbm, ⟨46, _⟩ => ⟨S2048x32000, .f32⟩
  | .hbm, ⟨47, _⟩ => ⟨S2048x32000, .i1⟩
  | .hbm, ⟨48, _⟩ => ⟨S2048x32000, .f32⟩
  | .hbm, ⟨49, _⟩ => ⟨S_, .f32⟩
  | .hbm, ⟨50, _⟩ => ⟨S_, .f32⟩
  | .hbm, ⟨51, _⟩ => ⟨S_, .f32⟩
  | _, _ => ⟨S2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_c_4 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_v10 : Ref sig .tc := ⟨.hbm, 21, rfl⟩
abbrev main_c_5 : Ref sig .tc := ⟨.hbm, 22, rfl⟩
abbrev main_v11 : Ref sig .tc := ⟨.hbm, 23, rfl⟩
abbrev main_v12 : Ref sig .tc := ⟨.hbm, 24, rfl⟩
abbrev main_c_6 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_7 : Ref sig .tc := ⟨.hbm, 29, rfl⟩
abbrev main_v16 : Ref sig .tc := ⟨.hbm, 30, rfl⟩
abbrev main_v17 : Ref sig .tc := ⟨.hbm, 31, rfl⟩
abbrev main_c_8 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_call1_v0 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Proof.Setup.lean ====
/-
  The program as the SparseCore launch theorem sees it, the ghost algebra the proof runs over, and the names of the arrays the
  SparseCore call reads and writes.

  The program has three kernels: a TensorCore pipeline that leaves, for each of the 2048 rows, the row's sum and the row's entry at the
  target column; a SparseCore kernel whose sixteen tiles each reduce 128 rows to sixteen lanes of partial sums; a last TensorCore kernel
  that adds the partial sums and divides. Everything here is stated over any float family `F`, so that one run serves the rounded and
  the ideal reading of the program.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Idealize.SL.Sem
open Idealize.ShloMosaic.Rounds

variable {F : FTy → Type}

/-! ## The program -/

variable [FloatOps F] [Named F]

abbrev ΛP : Labels := Pipeline.Sig Λ₀ (Fin 2) fun p => (pcfgs (F := F) p).Adm
/-- The SparseCore call's configuration. -/
abbrev K : SparseCore.Cfg τ sig (ΛP (F := F)) 1 := sc (F := F)
theorem nSub_zero : (K (F := F)).nSub 0 = 16 := rfl
/-- The body table below the SparseCore call's: the two TensorCore pipelines over the kernels' bodies. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra

The launch's handshakes, the TensorCore pipelines' staging cells, and the counters of the tiles' own copies, side by side. -/

abbrev UH : Type := URounds (GSem nD τ sig) ℕ
abbrev UP : Type := UR sig nD τ
abbrev UU : Type := UH × (UP × Counters)

/-- The machine's algebra at this program. -/
abbrev MM (F : FTy → Type) : Type := MT nD τ sig (HIx 1) (Elt F) ℕ UU ℕ

abbrev EH : Emb UH (MM F) := embL
abbrev EP : Emb UP (MM F) := (Emb.inl : Emb UP (UP × Counters)).trans embR

instance EP_landsIn : (EP : Emb UP (MM F)).LandsIn (upEmb : UEmb _ (MM F)) := by unfold EP; infer_instance

/-! ## The arrays the SparseCore call takes -/

/-- The row sums, the entries at the targets, the targets and the tiles' partial sums, as locations of device `d`. -/
abbrev rLoc (d : Dev nD) : Loc nD τ sig := (SparseCore.T d).loc main_v2
abbrev gLoc (d : Dev nD) : Loc nD τ sig := (SparseCore.T d).loc main_v3
abbrev tLoc (d : Dev nD) : Loc nD τ sig := (SparseCore.T d).loc main_arg1
abbrev oLoc (d : Dev nD) : Loc nD τ sig := (SparseCore.T d).loc main_v4

end Cert.Proof

end
-- ==== Proof.Region.lean ====
/-
  The two TensorCore pipelines as steps of @main, stated once for either of them.

  A pipeline is entered with every unscoped buffer of the TensorCore at a valuation `V` and left with them at a valuation `V'` that
  agrees with `V` off the pipeline's arrays and holds, at those, what the library computes for the pipeline's write-backs. The
  SparseCore call's debts ride along: before call `n` the TensorCore owes `K.Otc d n`, and the waits it has recorded all lie at or below
  that call's level, which the pipelines' own waits, at level zero, keep so.
-/
module

public import proofs.«01_k».proof.Proof.Setup
public import Idealize.ShloMosaic.Lib.Pipeline.RegionsLoop

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

/-- The pipelines prefetch no table, so nothing is to be chosen about the tables. -/
abbrev adm : (p : Fin 2) → (pcfgs (F := F) p).Adm := fun p => (cfgs p).toPCfg_adm
abbrev pinned (p : Fin 2) : Cfg sig Λ₀ := Pipeline.pin (pcfgs (F := F)) adm p

/-- Contents for the TensorCore's buffers, on every device. -/
abbrev Vals (F : FTy → Type) : Type := (c : Dev nD) → (b : Ref sig .tc) → Buf (Elt F) ((c : Thread nD τ).loc b)

/-- What the TensorCore of `c` owes before SparseCore call `n`, every wait it has recorded at or below that call's level. -/
def owing (n : ℕ) (c : Dev nD) : sProp (MM F) :=
  iprop(∃ W, ⌜(K (F := F)).WBelow (SparseCore.T c) W (8 * n)⌝ ∗ owes (SparseCore.T c) ((K (F := F)).Otc c n) W)

/-- What each of a pipeline's staging buffers holds after the body, at every point. -/
abbrev After (F : FTy → Type) [FloatOps F] [Named F] (p : Fin 2) : Type :=
  (w : Fin (pinned (F := F) p).W) → Fin (pinned (F := F) p).N → ((pinned (F := F) p).win w).block.Idx → Elt F ((pinned (F := F) p).win w).elt

/-- A pipeline's proof data from the entry valuation: the arrays as found, what the body leaves, the scoped buffers the pipeline does not
    stage, and the SparseCore call's debts as they are before call `n`. -/
def datOf (n : ℕ) (V : Vals F) (p : Fin 2) (c : Dev nD) (after : After F p) :
    Dat τ (Elt F) (HIx 1) ℕ UU ℕ (pinned (F := F) p) c where
  A w := V c (Pipeline.arrRef (pinned (F := F) p).spec w)
  after := after
  Φ _ := Pipeline.scopedRest (Ix := HIx 1) (Name := ℕ) (U := UU) (Lvl := ℕ) (Val := Elt F) (pinned (F := F) p).spec c
  q _ := fullShare
  owed _ := (K (F := F)).Otc c n
  recorded _ := {x | (K (F := F)).lev (SparseCore.T c, x.1) x.2 ≤ 8 * n}

section Reg

variable (n : ℕ) (V V' : Vals F) (after : (p : Fin 2) → Dev nD → After F p)

/-- Both pipelines' proof data. -/
abbrev dats (p : Fin 2) (c : Dev nD) : Dat τ (Elt F) (HIx 1) ℕ UU ℕ (pinned (F := F) p) c := datOf n V p c (after p c)

/-- The debts all stand at the call's own stage, none at the level of a pipeline's waits. -/
theorem otc_none (c : Dev nD) (g : GSem nD τ sig) : (K (F := F)).Otc c n g none = 0 := by
  unfold SparseCore.Cfg.Otc
  rw [Finset.sum_apply, Finsupp.finsetSum_apply]
  refine Finset.sum_eq_zero fun q _ => ?_
  split
  · rw [Finset.sum_apply, Finsupp.finsetSum_apply]
    exact Finset.sum_eq_zero fun k _ => by rw [tallyAt_apply]; exact if_neg fun h => nomatch h.2
  · rfl

theorem owes_enter (p : Fin 2) (c : Dev nD) : owing n c ⊢ (dats n V after p c).owesAt none 0 := by
  unfold owing Pipeline.Dat.owesAt Pipeline.owesWithin
  iintro ⟨%W, %hW, HO⟩; iexists W
  isplitr; · ipureintro; exact fun x hx => Or.inl (hW x hx)
  iexact HO

theorem owes_leave (p : Fin 2) (c : Dev nD) (t : Fin ((pinned (F := F) p).N + 1)) : (dats n V after p c).owesAt none t ⊢ owing n c := by
  unfold owing Pipeline.Dat.owesAt Pipeline.owesWithin
  iintro ⟨%W, %hW, HO⟩; iexists W
  isplitr
  · ipureintro
    intro x hx
    rcases hW hx with h | ⟨w, s, h⟩
    · exact h
    · rw [show x.2 = none from congrArg Prod.snd h]; exact Nat.zero_le _
  iexact HO

set_option backward.isDefEq.respectTransparency.types false in
/-- One pipeline as a step of @main, from the valuation `V` to the valuation `V'`. -/
def reg (p : Fin 2) (lf : Pipeline.LaunchFacts (nD := nD) (τ := τ) cfgs p)
    (hbody : ∀ c, BodyObligation (dats n V after p c) (defs₀ (F := F)) 𝒱₀ none Set.univ)
    (harr : ∀ c w, (dats n V after p c).arrAt w (pinned (F := F) p).N = V' c (Pipeline.arrRef (pinned (F := F) p).spec w))
    (hrest : ∀ c (b : Ref sig .tc), b ∉ Finset.univ.image (Pipeline.arrRef (pinned (F := F) p).spec) → V' c b = V c b) :
    Pipeline.RegionSeg (pcfgs (F := F)) adm (dats n V after) none defs₀ 𝒱₀ (K (F := F)).L (K (F := F)).lev p where
  win := lf.win.to₀
  block_pos := lf.block_pos
  stage_whole := lf.stage_whole
  K := PEmpty
  osem k := k.elim
  ho := Pipeline.OwnSemFacts.none _
  hbody c := (hbody c).loose
  hwaits c := Pipeline.cellsWaits_intro _ _ _ _ _ fun w s t => (K (F := F)).mayWait_none _ (otc_none n c)
  pre c := iprop(unscopedBufs c (V c) ∗ owing n c)
  post c := iprop(unscopedBufs c (V' c) ∗ owing n c)
  X _ := BI.emp
  Y _ := BI.emp
  Z c := Pipeline.unscopedRest (Ix := HIx 1) (Name := ℕ) (U := UU) (Lvl := ℕ) (pinned (F := F) p).spec c (V c)
  hentry c := by
    rw [Pipeline.ownSems0_none]
    have hsplit := Pipeline.arrays_of_unscopedBufs (p := p) (pcfgs (F := F)) adm (dats n V after) lf.win lf.arr_whole c
      ((dats n V after p c).share_full fun _ => rfl) (V c) fun _ => rfl
    have ho := owes_enter n V after p c
    iintro ⟨⟨Hub, HO⟩, -, -⟩
    ihave H := hsplit $$ Hub
    icases H with ⟨Ha, Hrest⟩
    ihave HO' := ho $$ HO
    imodintro
    isplitl [Ha]; · iexact Ha
    isplitr; · unfold Pipeline.prefHeld; rw [show (Finset.univ : Finset (Fin 0)) = ∅ from rfl, BI.bigSep_empty]; iempintro
    isplitl [HO']; · iexact HO'
    isplitr; · iempintro
    iexact Hrest
  hin c := by
    rw [show (dats n V after p c).Φ 0 = Pipeline.scopedRest (Ix := HIx 1) (Name := ℕ) (U := UU) (Lvl := ℕ) (Val := Elt F) (pinned (F := F) p).spec c from rfl]
    iintro ⟨-, -, Hr⟩; iexact Hr
  hout c := by
    rw [Pipeline.ownSems0_none, show (dats n V after p c).Φ (Fin.last _) = Pipeline.scopedRest (Ix := HIx 1) (Name := ℕ) (U := UU) (Lvl := ℕ) (Val := Elt F) (pinned (F := F) p).spec c from rfl]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) lf.win lf.arr_whole c
      (dats n V after) ((dats n V after p c).share_full fun _ => rfl) (V c) (V' c) ((dats n V after p c).arrAt · (pinned (F := F) p).N)
      (harr c) (hrest c)
    have ho := owes_leave n V after p c (Fin.last _)
    iintro ⟨Ha, HO, -, Hrest⟩
    ihave HO' := ho $$ HO
    imodintro
    isplitl [Ha Hrest]
    · iapply hjoin; isplitl [Ha] <;> iassumption
    iexact HO'

end Reg

end Cert.Proof

end
-- ==== Proof.Blocks.lean ====
/-
  What one run of each TensorCore kernel's body computes, on any whole staging buffers.

  The streaming kernel takes a block of 128 rows and their targets and leaves the 128 row sums (`k0_pay1`) and the 128 entries at the
  target columns (`k0_pay2`). The last kernel takes the tiles' partial sums and leaves the one quotient (`k2_pay1`).
-/
module

public import proofs.«01_k».proof.Proof.Setup
public import Idealize.ShloMosaic.Lib.Pipeline.Value
public import Idealize.ShloMosaic.Lib.Pipeline.FrameBody

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem off2 : (![0, 0] : Fin 2 → Nat) = fun _ => 0 := funext fun a => by fin_cases a <;> rfl
theorem off3 : (![0, 0, 0] : Fin 3 → Nat) = fun _ => 0 := funext fun a => by fin_cases a <;> rfl

/-- A whole buffer after one store through all of it reads as what was stored. -/
theorem read_stored {sig : RefSig} {κ : Kind} {sp : Space} {s : Shape} {e : EltTy} {Val : EltTy → Type} (v : View sig κ sp s e)
    (f : v.ty.Contents Val) {off : Fin s.rank → Nat} (h : off = fun _ => 0) (inb : ∀ a, off a + s.size a ≤ s.size a) (w : s.Idx → Val e)
    (L : List (View.Piece Val s e)) : v.read Val (v.writes Val f (⟨Rect.unit off s.size inb, w⟩ :: L)) = w := by
  subst h
  funext y
  have := View.read_writes_cons_emb v f (Rect.whole s) w L y
  rwa [Rect.emb_whole_apply] at this

/-- The streaming kernel at a block of rows `x` and their targets `t`. -/
theorem stream_body (c : Dev nD) (i : grid0.Coords) (M0 : Memref sig .tc .vmem S128x32000 .f32) (h0 : M0.IsWhole)
    (M1 : Memref sig .tc .vmem S1x1x128 .i32) (h1 : M1.IsWhole) (M2 : Memref sig .tc .vmem S1x1x128 .f32) (h2 : M2.IsWhole)
    (M3 : Memref sig .tc .vmem S1x1x128 .f32) (h3 : M3.IsWhole) (x : Vec F S128x32000 .f32) (t : Vec F S1x1x128 .i32)
    (d2 d3 : Vec F S1x1x128 .f32) (E : Set ℕ) (Q : PUnit → sProp (MM F)) :
    iprop(owns (c : Thread nD τ) M0 fullShare x ∗ owns (c : Thread nD τ) M1 fullShare t ∗ owns (c : Thread nD τ) M2 fullShare d2 ∗ owns (c : Thread nD τ) M3 fullShare d3
        ∗ (iprop(owns (c : Thread nD τ) M0 fullShare x ∗ owns (c : Thread nD τ) M1 fullShare t
            ∗ owns (c : Thread nD τ) M2 fullShare (k0_pay1 x) ∗ owns (c : Thread nD τ) M3 fullShare (k0_pay2 x t)) -∗ Q ⟨⟩))
      ⊢ wp frame (wpE (defs₀ (F := F)) Variants.none c none) E (cc0__tc_body i M0 h0 M1 h1 M2 h2 M3 h3) Q := by
  unfold owns
  rw [h0.set_eq_univ, h1.set_eq_univ, h2.set_eq_univ, h3.set_eq_univ]
  iintro ⟨⟨%f0, %hf0, H0⟩, ⟨%f1, %hf1, H1⟩, ⟨%f2, -, H2⟩, ⟨%f3, -, H3⟩, Hk⟩
  sl_exec!
  sl_step
  iapply Hk
  isplitl [H0]; · iexists f0; isplitr; (· ipureintro; exact hf0); iexact H0
  isplitl [H1]; · iexists f1; isplitr; (· ipureintro; exact hf1); iexact H1
  isplitl [H2]
  · iexists _; isplitr; swap; (· iexact H2); ipureintro
    delta stream_body.sl.H2_1
    refine (read_stored M2.view _ off3 _ _ []).trans ?_
    subst hf0
    exact congrArg k0_pay1 (View.ld_unit_zero off2 _ _)
  · iexists _; isplitr; swap; (· iexact H3); ipureintro
    delta stream_body.sl.H3_1
    refine (read_stored M3.view _ off3 _ _ []).trans ?_
    subst hf0 hf1
    exact congrArg₂ k0_pay2 (View.ld_unit_zero off2 _ _) (View.ld_unit_zero off3 _ _)

/-- The last kernel at the tiles' partial sums `p`. -/
theorem combine_body (c : Dev nD) (M0 : Memref sig .tc .vmem S16x2x16 .f32) (h0 : M0.IsWhole)
    (M1 : Memref sig .tc .smem S1x1 .f32) (h1 : M1.IsWhole) (p : Vec F S16x2x16 .f32)
    (d1 : Vec F S1x1 .f32) (E : Set ℕ) (Q : PUnit → sProp (MM F)) :
    iprop(owns (c : Thread nD τ) M0 fullShare p ∗ owns (c : Thread nD τ) M1 fullShare d1
        ∗ (iprop(owns (c : Thread nD τ) M0 fullShare p ∗ owns (c : Thread nD τ) M1 fullShare
          (fun _ => k2_pay1 (View.ld p (Rect.unit (s := S16x2x16) ![0, 0, 0] S16x1x16.size inb_S16x2x16_S16x1x16_0_0_0))
            (View.ld p (Rect.unit (s := S16x2x16) ![0, 1, 0] S16x1x16.size inb_S16x2x16_S16x1x16_0_1_0)))) -∗ Q ⟨⟩))
      ⊢ wp frame (wpE (defs₀ (F := F)) Variants.none c none) E (cc2__combine_body M0 h0 M1 h1) Q := by
  unfold owns
  rw [h0.set_eq_univ, h1.set_eq_univ]
  iintro ⟨⟨%f0, %hf0, H0⟩, ⟨%f1, -, H1⟩, Hk⟩
  sl_exec!
  sl_step
  iapply Hk
  isplitl [H0]; · iexists f0; isplitr; (· ipureintro; exact hf0); iexact H0
  · iexists _; isplitr; swap; (· iexact H1); ipureintro
    delta combine_body.sl.H1_1
    refine (read_stored M1.view _ off2 _ _ []).trans ?_
    subst hf0
    rfl

end Cert.Proof

end
-- ==== Proof.Stream.lean ====
/-
  The streaming pipeline: sixteen points, point `t` over rows `128 t … 128 t + 127`.

  It leaves, in two arrays of shape 16 × 1 × 128, the sums of the rows and the rows' entries at the target columns. Both are stated here
  by the printed expressions of one block (`k0_pay1`, `k0_pay2`) at the block's 128 rows.
-/
module

public import proofs.«01_k».proof.Proof.Region
public import proofs.«01_k».proof.Proof.Blocks

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

/-! ## The blocks -/

/-- Row `j` of block `k`. -/
def row (k : Fin 16) (j : Fin 128) : Fin 2048 := ⟨128 * k.val + j.val, by omega⟩

/-- Positions of the arrays by their coordinates. -/
def atX (i : Fin 2048) (j : Fin 32000) : S2048x32000.Idx := fun | 0 => i | 1 => j
def atBlk (i : Fin 128) (j : Fin 32000) : S128x32000.Idx := fun | 0 => i | 1 => j
def atPl (k : Fin 16) (j : Fin 128) : S16x1x128.Idx := fun | 0 => k | 1 => ⟨0, Nat.one_pos⟩ | 2 => j
def inPl (j : Fin 128) : S1x1x128.Idx := fun | 0 => ⟨0, Nat.one_pos⟩ | 1 => ⟨0, Nat.one_pos⟩ | 2 => j

/-- Rows `128 k … 128 k + 127` of an array of 2048 rows. -/
def rowsOf {α : Type} (x : S2048x32000.Idx → α) (k : Fin 16) : S128x32000.Idx → α := fun j => x (atX (row k (j 0)) (j 1))

/-- Plane `k` of an array of sixteen rows of 128. -/
def planeOf {α : Type} (x : S16x1x128.Idx → α) (k : Fin 16) : S1x1x128.Idx → α := fun j => x (atPl k (j 2))

/-- Every row's sum. -/
def rowSums (x : S2048x32000.Idx → F .f32) : S16x1x128.Idx → F .f32 := fun i => k0_pay1 (rowsOf x (i 0)) (inPl (i 2))
/-- Every row's entry at its target column. -/
def rowPicks (x : S2048x32000.Idx → F .f32) (t : S16x1x128.Idx → BitVec 32) : S16x1x128.Idx → F .f32 := fun i =>
  k0_pay2 (rowsOf x (i 0)) (planeOf t (i 0)) (inPl (i 2))

/-- A point of the grid, as the block it is over. -/
abbrev pt0 (t : Fin cfg0.N) : Fin 16 := t.cast N_0

theorem index0_0 : ∀ t : Fin cfg0.N, win0_0.index t = ![t.val, 0] := by decide +kernel
theorem index0_1 : ∀ t : Fin cfg0.N, win0_1.index t = ![t.val, 0, 0] := by decide +kernel
theorem index0_2 : ∀ t : Fin cfg0.N, win0_2.index t = ![t.val, 0, 0] := by decide +kernel
theorem index0_3 : ∀ t : Fin cfg0.N, win0_3.index t = ![t.val, 0, 0] := by decide +kernel

theorem emb0_0 (t : Fin cfg0.N) (j : S128x32000.Idx) : (win0_0.rect t).emb j = atX (row (pt0 t) (j 0)) (j 1) := by
  funext a
  apply Fin.ext
  refine (win0_0.rect_emb_val t j a).trans ?_
  rw [index0_0]
  fin_cases a
  · show t.val * 128 + (j 0).val = 128 * t.val + (j 0).val; omega
  · show 0 * 32000 + (j 1).val = (j 1).val; omega

theorem emb0_1 (t : Fin cfg0.N) (j : S1x1x128.Idx) : (win0_1.rect t).emb j = atPl (pt0 t) (j 2) := by
  funext a
  apply Fin.ext
  refine (win0_1.rect_emb_val t j a).trans ?_
  rw [index0_1]
  have h0 : (j 0).val < 1 := (j 0).isLt
  have h1 : (j 1).val < 1 := (j 1).isLt
  fin_cases a
  · show t.val * 1 + (j 0).val = t.val; omega
  · show 0 * 1 + (j 1).val = 0; omega
  · show 0 * 128 + (j 2).val = (j 2).val; omega

theorem emb0_2 (t : Fin cfg0.N) (j : S1x1x128.Idx) : (win0_2.rect t).emb j = atPl (pt0 t) (j 2) := by
  funext a
  apply Fin.ext
  refine (win0_2.rect_emb_val t j a).trans ?_
  rw [index0_2]
  have h0 : (j 0).val < 1 := (j 0).isLt
  have h1 : (j 1).val < 1 := (j 1).isLt
  fin_cases a
  · show t.val * 1 + (j 0).val = t.val; omega
  · show 0 * 1 + (j 1).val = 0; omega
  · show 0 * 128 + (j 2).val = (j 2).val; omega

theorem emb0_3 (t : Fin cfg0.N) (j : S1x1x128.Idx) : (win0_3.rect t).emb j = atPl (pt0 t) (j 2) := by
  funext a
  apply Fin.ext
  refine (win0_3.rect_emb_val t j a).trans ?_
  rw [index0_3]
  have h0 : (j 0).val < 1 := (j 0).isLt
  have h1 : (j 1).val < 1 := (j 1).isLt
  fin_cases a
  · show t.val * 1 + (j 0).val = t.val; omega
  · show 0 * 1 + (j 1).val = 0; omega
  · show 0 * 128 + (j 2).val = (j 2).val; omega

theorem read0_0 (x : S2048x32000.Idx → F .f32) (t : Fin cfg0.N) : (win0_0.blk t).view.read (Elt F) x = rowsOf x (pt0 t) :=
  funext fun j => congrArg x (emb0_0 t j)

theorem read0_1 (x : S16x1x128.Idx → BitVec 32) (t : Fin cfg0.N) : (win0_1.blk t).view.read (Elt F) x = planeOf x (pt0 t) :=
  funext fun j => congrArg x (emb0_1 t j)

/-! ## The proof data -/

/-- What each staging buffer holds after the body at point `t`: the two inputs their blocks, the two results the block's sums and picks. -/
def after0 (V : Vals F) (c : Dev nD) : After F 0 := fun w t =>
  match w with
  | ⟨0, _⟩ => rowsOf (V c main_arg0) (pt0 t)
  | ⟨1, _⟩ => planeOf (V c main_v0) (pt0 t)
  | ⟨2, _⟩ => k0_pay1 (rowsOf (V c main_arg0) (pt0 t))
  | ⟨3, _⟩ => k0_pay2 (rowsOf (V c main_arg0) (pt0 t)) (planeOf (V c main_v0) (pt0 t))

/-- The proof data of the streaming pipeline, the SparseCore call's debts those before call `n`. -/
abbrev dat0 (n : ℕ) (V : Vals F) (c : Dev nD) : Dat τ (Elt F) (HIx 1) ℕ UU ℕ cfg0 c := datOf n V 0 c (after0 V c)

variable (n : ℕ) (V : Vals F) (c : Dev nD)

theorem before0_0 (t : Fin cfg0.N) (d) : (dat0 n V c).before 0 t d = rowsOf (V c main_arg0) (pt0 t) :=
  ((dat0 n V c).before_fetched 0 t (fetch0_0 t) d).trans (read0_0 (V c main_arg0) t)

theorem before0_1 (t : Fin cfg0.N) (d) : (dat0 n V c).before 1 t d = planeOf (V c main_v0) (pt0 t) :=
  ((dat0 n V c).before_fetched 1 t (fetch0_1 t) d).trans (read0_1 (F := F) (V c main_v0) t)

/-- One point of the streaming pipeline. -/
theorem stream_obligation : BodyObligation (dat0 n V c) (defs₀ (F := F)) 𝒱₀ none Set.univ := fun t => by
  rw [bigSep_W0, bigSep_W0]
  rw [show (dat0 n V c).Φ t.succ = (dat0 n V c).Φ t.castSucc from rfl,
    show (dat0 n V c).owesAt none t.succ = (dat0 n V c).owesAt none t.castSucc from rfl]
  iintro ⟨HΦ, Ho, ⟨%d0, H0⟩, ⟨%d1, H1⟩, ⟨%d2, H2⟩, ⟨%d3, H3⟩⟩
  rw [before0_0, before0_1]
  iapply (stream_body (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (rowsOf (V c main_arg0) (pt0 t)) (planeOf (V c main_v0) (pt0 t))
    ((dat0 n V c).before 2 t d2) ((dat0 n V c).before 3 t d3) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## What the pipeline leaves -/

theorem cover_pl (i : S16x1x128.Idx) : i = atPl (i 0) (i 2) := by
  funext a
  apply Fin.ext
  have h1 : (i 1).val < 1 := (i 1).isLt
  fin_cases a
  · rfl
  · show (i 1).val = 0; omega
  · rfl

theorem in_pl (j : S1x1x128.Idx) : inPl (j 2) = j := by
  funext a
  apply Fin.ext
  have h0 : (j 0).val < 1 := (j 0).isLt
  have h1 : (j 1).val < 1 := (j 1).isLt
  fin_cases a
  · show 0 = (j 0).val; omega
  · show 0 = (j 1).val; omega
  · rfl

/-- The first result ends at the row sums, -/
theorem left0_2 : (dat0 n V c).arrAt 2 cfg0.N = rowSums (V c main_arg0) := by
  refine (dat0 n V c).arrAt_eq_of_cover 2 (rowSums (V c main_arg0)) (fun t _ => ?_) fun i => ?_
  · funext j
    refine Eq.trans ?_ (congrArg (rowSums (V c main_arg0)) (emb0_2 t j)).symm
    exact congrArg (k0_pay1 (rowsOf (V c main_arg0) (pt0 t))) (in_pl j).symm
  · exact ⟨(i 0).cast N_0.symm, flush0_2 _, Finset.mem_map.mpr ⟨inPl (i 2), Finset.mem_univ _, (emb0_2 _ _).trans (cover_pl i).symm⟩⟩

/-- the second at the entries at the targets. -/
theorem left0_3 : (dat0 n V c).arrAt 3 cfg0.N = rowPicks (V c main_arg0) (V c main_v0) := by
  refine (dat0 n V c).arrAt_eq_of_cover 3 (rowPicks (V c main_arg0) (V c main_v0)) (fun t _ => ?_) fun i => ?_
  · funext j
    refine Eq.trans ?_ (congrArg (rowPicks (V c main_arg0) (V c main_v0)) (emb0_3 t j)).symm
    exact congrArg (k0_pay2 (rowsOf (V c main_arg0) (pt0 t)) (planeOf (V c main_v0) (pt0 t))) (in_pl j).symm
  · exact ⟨(i 0).cast N_0.symm, flush0_3 _, Finset.mem_map.mpr ⟨inPl (i 2), Finset.mem_univ _, (emb0_3 _ _).trans (cover_pl i).symm⟩⟩

end Cert.Proof

end
-- ==== Proof.Combine.lean ====
/-
  The last pipeline: one point over the tiles' partial sums as a whole, leaving the one quotient.
-/
module

public import proofs.«01_k».proof.Proof.Stream

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

/-- What the last kernel computes of the tiles' partial sums. -/
def combined (p : S16x2x16.Idx → F .f32) : F .f32 :=
  k2_pay1 (View.ld (Val := Elt F) (e' := .f32) p (Rect.unit (s := S16x2x16) ![0, 0, 0] S16x1x16.size inb_S16x2x16_S16x1x16_0_0_0))
    (View.ld (Val := Elt F) (e' := .f32) p (Rect.unit (s := S16x2x16) ![0, 1, 0] S16x1x16.size inb_S16x2x16_S16x1x16_0_1_0))

theorem index2_0 : ∀ t : Fin cfg2.N, win2_0.index t = fun _ => 0 := by decide +kernel
theorem index2_1 : ∀ t : Fin cfg2.N, win2_1.index t = fun _ => 0 := by decide +kernel

theorem emb2_0 (t : Fin cfg2.N) (j : S16x2x16.Idx) : (win2_0.rect t).emb j = j :=
  funext fun a => Fin.ext (win2_0.rect_emb_val_of_index_zero t a (congrFun (index2_0 t) a) j)

theorem emb2_1 (t : Fin cfg2.N) (j : S1x1.Idx) : (win2_1.rect t).emb j = j :=
  funext fun a => Fin.ext (win2_1.rect_emb_val_of_index_zero t a (congrFun (index2_1 t) a) j)

theorem read2_0 (x : S16x2x16.Idx → F .f32) (t : Fin cfg2.N) : (win2_0.blk t).view.read (Elt F) x = x :=
  funext fun j => congrArg x (emb2_0 t j)

/-- What each staging buffer holds after the body. -/
def after1 (V : Vals F) (c : Dev nD) : After F 1 := fun w _ =>
  match w with
  | ⟨0, _⟩ => V c main_v4
  | ⟨1, _⟩ => fun _ => combined (V c main_v4)

abbrev dat1 (n : ℕ) (V : Vals F) (c : Dev nD) : Dat τ (Elt F) (HIx 1) ℕ UU ℕ cfg2 c := datOf n V 1 c (after1 V c)

variable (n : ℕ) (V : Vals F) (c : Dev nD)

theorem before1_0 (t : Fin cfg2.N) (d) : (dat1 n V c).before 0 t d = V c main_v4 :=
  ((dat1 n V c).before_fetched 0 t (fetch2_0 t) d).trans (read2_0 (F := F) (V c main_v4) t)

/-- The one point of the last pipeline. -/
theorem combine_obligation : BodyObligation (dat1 n V c) (defs₀ (F := F)) 𝒱₀ none Set.univ := fun t => by
  rw [bigSep_W2, bigSep_W2]
  rw [show (dat1 n V c).Φ t.succ = (dat1 n V c).Φ t.castSucc from rfl,
    show (dat1 n V c).owesAt none t.succ = (dat1 n V c).owesAt none t.castSucc from rfl]
  iintro ⟨HΦ, Ho, ⟨%d0, H0⟩, ⟨%d1, H1⟩⟩
  rw [before1_0]
  iapply (combine_body (F := F) c (win2_0.stage (cfg2.slots t 0)) (hstage2_0 0) (win2_1.stage (cfg2.slots t 1)) (hstage2_1 0)
    (V c main_v4) ((dat1 n V c).before 1 t d1) Set.univ _)
  isplitl [H0]; · iexact H0
  isplitl [H1]; · iexact H1
  iintro ⟨H0, H1⟩
  isplitl [HΦ]; · iexact HΦ
  isplitl [Ho]; · iexact Ho
  isplitl [H0]; · iexact H0
  iexact H1

/-- The result ends at the quotient. -/
theorem left1_1 : (dat1 n V c).arrAt 1 cfg2.N = fun _ => combined (V c main_v4) := by
  refine (dat1 n V c).arrAt_eq_of_cover 1 (fun _ => combined (V c main_v4)) (fun t _ => rfl) fun i => ?_
  exact ⟨t2_0, flush2_1 _, Finset.mem_map.mpr ⟨i, Finset.mem_univ _, emb2_1 _ i⟩⟩

end Cert.Proof

end
-- ==== Proof.TileValue.lean ====
/-
  What one tile of the SparseCore kernel computes, as a function of the row sums, the target entries and the targets.

  Tile `w` takes the rows `128 w … 128 w + 127` in eight groups of sixteen lanes and keeps two running vectors of sixteen lanes: the sum of
  the rows' contributions, and the number of rows whose target is not the padding index 0.
-/
module

public import proofs.«01_k».proof.Proof.Setup
public import Idealize.ShloMosaic.Lib.Pipeline.Value

@[expose] public section

noncomputable section

namespace Cert.Proof

open Cert.KernelIdeal Cert.KernelIdeal.Gen
open Idealize.ShloMosaic

variable {F : FTy → Type} [FloatOps F] [Named F]

/-- Row `128 w + o + l`: lane `l` of the group of tile `w` that begins at its row `o`. -/
def rowIx (w o l : ℕ) : S2048.Idx := fun | 0 => ⟨(128 * w + o + l) % 2048, Nat.mod_lt _ (by decide)⟩

/-- The group of sixteen of tile `w` that begins at its row `o`, of an array over the rows. -/
def group {α : Type} (f : S2048.Idx → α) (w o : ℕ) : S16.Idx → α := fun l => f (rowIx w o (l 0).val)

/-- Which lanes of a group of targets are not padding. -/
def live (t : IVec S16 32) : IVec S16 1 := cmpi .ne t (broadcast S16 0#32)

/-- What a group adds to the running contribution. -/
def contribOf (rs g : FVec F S16 .f32) (t : IVec S16 32) : FVec F S16 .f32 :=
  select (live t)
    (subf (mulf (broadcast S16 (Named.named κ "eps_less_conf" 0xBF666632#32)) g) (mulf (broadcast S16 (Named.named κ "eps" 0x3651B8C5#32)) rs))
    (broadcast S16 (Scalar.ofBits .f32 0x00000000#32))

/-- What a group adds to the running count. -/
def countOf (t : IVec S16 32) : FVec F S16 .f32 :=
  select (live t) (broadcast S16 (Scalar.ofBits .f32 0x3F800000#32)) (broadcast S16 (Scalar.ofBits .f32 0x00000000#32))

/-- The running contribution after `n` groups `R`, `G`, `T` of row sums, target entries and targets. -/
def runN (R G : ℕ → FVec F S16 .f32) (T : ℕ → IVec S16 32) : ℕ → FVec F S16 .f32
  | 0 => broadcast S16 (Scalar.ofBits .f32 0x00000000#32)
  | n + 1 => addf (runN R G T n) (contribOf (R n) (G n) (T n))

/-- The running count after `n` groups of targets. -/
def runT (T : ℕ → IVec S16 32) : ℕ → FVec F S16 .f32
  | 0 => broadcast S16 (Scalar.ofBits .f32 0x00000000#32)
  | n + 1 => addf (runT T n) (countOf (T n))

/-- Tile `w`'s running contribution and count after `n` of its groups. -/
def accN (rs g : S2048.Idx → F .f32) (t : S2048.Idx → BitVec 32) (w n : ℕ) : FVec F S16 .f32 :=
  runN (fun k => group rs w (16 * k)) (fun k => group g w (16 * k)) (fun k => group t w (16 * k)) n
def accT (t : S2048.Idx → BitVec 32) (w n : ℕ) : FVec F S16 .f32 := runT (fun k => group t w (16 * k)) n

/-- Lane `j` of a register of sixteen. -/
def lane (j : Fin 16) : S16.Idx := fun | 0 => j

/-- The array of partial sums: at `(w, 0, l)` lane `l` of tile `w`'s contribution, at `(w, 1, l)` of its count. -/
def partials (rs g : S2048.Idx → F .f32) (t : S2048.Idx → BitVec 32) : S16x2x16.Idx → F .f32 := fun i =>
  if (i 1).val = 0 then accN rs g t (i 0).val 8 (lane (i 2)) else accT t (i 0).val 8 (lane (i 2))

/-! ## The body's arithmetic, chunk by chunk, is that recursion -/

theorem step_pay5 (T : IVec S16 32) (R G : FVec F S16 .f32) :
    k1_pay5 T R G = addf (broadcast S16 (Scalar.ofBits .f32 0x00000000#32)) (contribOf R G T) := by
  simp only [k1_pay5, k1_pay4, shapeCast_self]; rfl
theorem step_pay6 (T : IVec S16 32) : k1_pay6 (F := F) T = addf (broadcast S16 (Scalar.ofBits .f32 0x00000000#32)) (countOf T) := by
  simp only [k1_pay6, k1_pay4, shapeCast_self]; rfl
theorem step_pay10 (a : FVec F S16 .f32) (T T' : IVec S16 32) (R G R' G' : FVec F S16 .f32) :
    k1_pay10 a (k1_pay7 (F := F) T) R G T' R' G' = addf (addf a (contribOf R G T)) (contribOf R' G' T') := by
  simp only [k1_pay10, k1_pay7, k1_pay8, k1_pay9, shapeCast_self]; rfl
theorem step_pay11 (a : FVec F S16 .f32) (T T' : IVec S16 32) :
    k1_pay11 a (k1_pay7 (F := F) T) T' = addf (addf a (countOf T)) (countOf T') := by
  simp only [k1_pay11, k1_pay7, k1_pay8, k1_pay9, shapeCast_self]; rfl
theorem step_pay16 (a : FVec F S16 .f32) (T T' : IVec S16 32) (R G R' G' : FVec F S16 .f32) :
    k1_pay16 a (k1_pay12 (F := F) T) (k1_pay13 R) G T' R' G' = addf (addf a (contribOf R G T)) (contribOf R' G' T') := by
  simp only [k1_pay16, k1_pay12, k1_pay13, k1_pay14, k1_pay15, shapeCast_self]; rfl
theorem step_pay17 (a : FVec F S16 .f32) (T T' : IVec S16 32) :
    k1_pay17 a (k1_pay12 (F := F) T) T' = addf (addf a (countOf T)) (countOf T') := by
  simp only [k1_pay17, k1_pay12, k1_pay14, k1_pay15, shapeCast_self]; rfl
theorem step_pay23 (a : FVec F S16 .f32) (T T' : IVec S16 32) (R G R' G' : FVec F S16 .f32) :
    k1_pay23 a (k1_pay18 (F := F) T) (k1_pay19 R) (k1_pay20 G) T' R' G' = addf (addf a (contribOf R G T)) (contribOf R' G' T') := by
  simp only [k1_pay23, k1_pay18, k1_pay19, k1_pay20, k1_pay21, k1_pay22, shapeCast_self]; rfl
theorem step_pay24 (a : FVec F S16 .f32) (T T' : IVec S16 32) :
    k1_pay24 a (k1_pay18 (F := F) T) T' = addf (addf a (countOf T)) (countOf T') := by
  simp only [k1_pay24, k1_pay18, k1_pay21, k1_pay22, shapeCast_self]; rfl
theorem step_pay2 (a : FVec F S16 .f32) (T : IVec S16 32) (R G : FVec F S16 .f32) :
    k1_pay2 a (k1_pay25 (F := F) T) (k1_pay26 R) (k1_pay27 G) k1_pay28 = shapeCast S1x16 (addf a (contribOf R G T)) shapeCasts_S16_S1x16 := by
  simp only [k1_pay2, k1_pay1, k1_pay25, k1_pay26, k1_pay27, k1_pay28, shapeCast_self]; rfl
theorem step_pay3 (a : FVec F S16 .f32) (T : IVec S16 32) :
    k1_pay3 a (k1_pay25 (F := F) T) k1_pay28 = shapeCast S1x16 (addf a (countOf T)) shapeCasts_S16_S1x16 := by
  simp only [k1_pay3, k1_pay1, k1_pay25, k1_pay28, shapeCast_self]; rfl

end Cert.Proof

end
-- ==== Proof.Tile.lean ====
/-
  One tile's task: it copies its 128 row sums, target entries and targets into its own memory, reduces them, and copies the two rows of
  sixteen partial sums to its place in the array of partial sums. Run once, at a symbolic tile.
-/
module

public import proofs.«01_k».proof.Proof.TileValue

@[expose] public section

noncomputable section

namespace Cert.Proof

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's operands and scratches as the body table passes them, closed
local notation "rV" => (Memref.whole Cert.KernelIdeal.main_v2_scv : Memref Cert.KernelIdeal.sig Kind.scVector Space.hbm Cert.KernelIdeal.S2048 EltTy.f32)
local notation "gV" => (Memref.whole Cert.KernelIdeal.main_v3_scv : Memref Cert.KernelIdeal.sig Kind.scVector Space.hbm Cert.KernelIdeal.S2048 EltTy.f32)
local notation "tV" => (Memref.whole Cert.KernelIdeal.main_arg1_scv : Memref Cert.KernelIdeal.sig Kind.scVector Space.hbm Cert.KernelIdeal.S2048 EltTy.i32)
local notation "oV" => (Memref.whole Cert.KernelIdeal.main_v4_scv : Memref Cert.KernelIdeal.sig Kind.scVector Space.hbm Cert.KernelIdeal.S16x2x16 EltTy.f32)
local notation "sR" => (Memref.whole Cert.KernelIdeal.cc1_scratch0 : Memref Cert.KernelIdeal.sig Kind.scVector Space.vmem Cert.KernelIdeal.S128 EltTy.f32)
local notation "sG" => (Memref.whole Cert.KernelIdeal.cc1_scratch1 : Memref Cert.KernelIdeal.sig Kind.scVector Space.vmem Cert.KernelIdeal.S128 EltTy.f32)
local notation "sT" => (Memref.whole Cert.KernelIdeal.cc1_scratch2 : Memref Cert.KernelIdeal.sig Kind.scVector Space.vmem Cert.KernelIdeal.S128 EltTy.i32)
local notation "sP" => (Memref.whole Cert.KernelIdeal.cc1_scratch3 : Memref Cert.KernelIdeal.sig Kind.scVector Space.vmem Cert.KernelIdeal.S2x16 EltTy.f32)

/-! ## The pieces of the arrays one tile holds -/

theorem hdivRow : 16 ∣ S2048.size 0 := ⟨128, rfl⟩
theorem hdivOut : 16 ∣ S16x2x16.size 0 := ⟨1, rfl⟩
/-- The 128 rows of tile `i`, and its place in the partial sums. -/
abbrev rowPart (i : Fin 16) : Rect S2048 := Rect.part (s := S2048) (a₀ := 0) hdivRow i
abbrev rowSet (i : Fin 16) : Finset S2048.Idx := (rowPart i).set
abbrev outPart (i : Fin 16) : Rect S16x2x16 := Rect.part (s := S16x2x16) (a₀ := 0) hdivOut i
abbrev outSet (i : Fin 16) : Finset S16x2x16.Idx := (outPart i).set

variable (d : Dev nD) (L : grid1.Coords)

abbrev cV (L : grid1.Coords) : Fin τ.nSC := (L 0).castLE hcore1
abbrev jV (L : grid1.Coords) : Fin τ.nSub := (L 1).castLE hsub1
theorem bound_one : grid1.bound 1 = 16 := rfl
abbrev jL (L : grid1.Coords) : Fin 16 := Fin.cast bound_one (L 1)

/-- The same pieces as the body addresses them. -/
abbrev rowK (L : grid1.Coords) : Rect S2048 := Rect.unit (s := S2048) (k1_off1 L) S128.size (k1_off1_inb L)
abbrev outK (L : grid1.Coords) : Rect S16x2x16 := Rect.unit (s := S16x2x16) (k1_off2 L) S1x2x16.size (k1_off2_inb L)
abbrev rRow (L : grid1.Coords) : Memref sig .scVector .hbm S128 .f32 := (rV).slice (rowK L) (fun _ => rfl)
abbrev gRow (L : grid1.Coords) : Memref sig .scVector .hbm S128 .f32 := (gV).slice (rowK L) (fun _ => rfl)
abbrev tRow (L : grid1.Coords) : Memref sig .scVector .hbm S128 .i32 := (tV).slice (rowK L) (fun _ => rfl)
abbrev oRow (L : grid1.Coords) : Memref sig .scVector .hbm S2x16 .f32 := ((oV).slice (outK L) (fun _ => rfl)).squeeze S2x16 squeezes_S1x2x16_S2x16

theorem rowK_eq : rowK L = rowPart (jL L) := by
  unfold rowK rowPart Rect.part Rect.block
  congr 1 <;> funext a <;> obtain rfl := Subsingleton.elim a 0
  · rw [k1_off1_eq]; simp [Shape.partIx, Shape.partSize, Nat.mul_comm]
  · simp [Shape.partSize]

theorem outK_eq : outK L = outPart (jL L) := by
  unfold outK outPart Rect.part Rect.block
  congr 1 <;> funext a
  · rw [k1_off2_eq]; fin_cases a <;> simp [Shape.partIx, Shape.partSize]
  · fin_cases a <;> simp [Shape.partSize]

theorem set_whole_slice {κ : Kind} (b : Ref sig κ) (r : Rect b.ty.shape) : ((View.whole b).slice r).set = r.set := by
  rw [View.set_slice]; exact Finset.map_refl

theorem set_rRow : (rRow L).view.set = rowSet (jL L) := (set_whole_slice main_v2_scv (rowK L)).trans (by rw [rowK_eq])
theorem set_gRow : (gRow L).view.set = rowSet (jL L) := (set_whole_slice main_v3_scv (rowK L)).trans (by rw [rowK_eq])
theorem set_tRow : (tRow L).view.set = rowSet (jL L) := (set_whole_slice main_arg1_scv (rowK L)).trans (by rw [rowK_eq])
theorem set_oRow : (oRow L).view.set = outSet (jL L) := by
  show (((oV).view.slice (outK L)).reshape S2x16 squeezes_S1x2x16_S2x16.numel_eq).set = _
  rw [View.set_reshape]
  exact (set_whole_slice main_v4_scv (outK L)).trans (by rw [outK_eq])

variable [FloatOps F] [Named F]

theorem pts_rRow (f : Buf (Elt F) (rLoc d)) :
    ((rRow L).view.loc (V d (cV L) (jV L)) ↦[(rRow L).view.set]{fullShare} f : sProp 𝕄) = rLoc d ↦[rowSet (jL L)]{fullShare} f := by
  rw [set_rRow]
theorem pts_gRow (f : Buf (Elt F) (gLoc d)) :
    ((gRow L).view.loc (V d (cV L) (jV L)) ↦[(gRow L).view.set]{fullShare} f : sProp 𝕄) = gLoc d ↦[rowSet (jL L)]{fullShare} f := by
  rw [set_gRow]
theorem pts_tRow (f : Buf (Elt F) (tLoc d)) :
    ((tRow L).view.loc (V d (cV L) (jV L)) ↦[(tRow L).view.set]{fullShare} f : sProp 𝕄) = tLoc d ↦[rowSet (jL L)]{fullShare} f := by
  rw [set_tRow]
theorem pts_oRow (f : Buf (Elt F) (oLoc d)) :
    ((oRow L).view.loc (V d (cV L) (jV L)) ↦[(oRow L).view.set]{fullShare} f : sProp 𝕄) = oLoc d ↦[outSet (jL L)]{fullShare} f := by
  rw [set_oRow]

/-- One tile's piece of each of the four arrays. -/
abbrev rPts (d : Dev nD) (i : Fin 16) (f : Buf (Elt F) (rLoc d)) : sProp 𝕄 := rLoc d ↦[rowSet i]{fullShare} f
abbrev gPts (d : Dev nD) (i : Fin 16) (f : Buf (Elt F) (gLoc d)) : sProp 𝕄 := gLoc d ↦[rowSet i]{fullShare} f
abbrev tPts (d : Dev nD) (i : Fin 16) (f : Buf (Elt F) (tLoc d)) : sProp 𝕄 := tLoc d ↦[rowSet i]{fullShare} f
abbrev oPts (d : Dev nD) (i : Fin 16) (f : Buf (Elt F) (oLoc d)) : sProp 𝕄 := oLoc d ↦[outSet i]{fullShare} f

/-! ## The tile's own semaphores and buffers -/

abbrev cell (d : Dev nD) (L : grid1.Coords) (s : DmaSem sig) : GSem nD τ sig := (V d (cV L) (jV L), .dma s)

theorem mem_cell (s : DmaSem sig) (h : (SemLoc.dma s : SemLoc sig).isScoped .scVector = true) :
    cell d L s ∈ ownCells (V d (cV L) (jV L)) := mem_ownCells.mpr ⟨rfl, h⟩
theorem cell_ne {s s' : DmaSem sig} (h : s ≠ s') : cell d L s ≠ cell d L s' := fun e => h (SemLoc.dma.inj (Prod.mk.inj e).2)

theorem ownSems0_V :
    (ownSems0 (V d (cV L) (jV L)) : sProp 𝕄)
      = iprop(semVal (cell d L cc1_scoped0.sem) 0 ∗ semVal (cell d L cc1_scoped1.sem) 0 ∗ semVal (cell d L cc1_scoped2.sem) 0 ∗ semVal (cell d L cc1_scoped3.sem) 0
          ∗ bigSep (((((ownCells (V d (cV L) (jV L))).erase (cell d L cc1_scoped0.sem)).erase (cell d L cc1_scoped1.sem)).erase (cell d L cc1_scoped2.sem)).erase
              (cell d L cc1_scoped3.sem)) fun g => semVal g 0) := by
  unfold SparseCore.Cfg.ownSems0
  rw [SparseCore.bigSep_erase' (mem_cell d L cc1_scoped0.sem (by decide)),
    SparseCore.bigSep_erase' (Finset.mem_erase.mpr ⟨cell_ne d L (by decide), mem_cell d L cc1_scoped1.sem (by decide)⟩),
    SparseCore.bigSep_erase' (Finset.mem_erase.mpr ⟨cell_ne d L (by decide), Finset.mem_erase.mpr ⟨cell_ne d L (by decide), mem_cell d L cc1_scoped2.sem (by decide)⟩⟩),
    SparseCore.bigSep_erase' (Finset.mem_erase.mpr ⟨cell_ne d L (by decide), Finset.mem_erase.mpr ⟨cell_ne d L (by decide),
      Finset.mem_erase.mpr ⟨cell_ne d L (by decide), mem_cell d L cc1_scoped3.sem (by decide)⟩⟩⟩)]

abbrev own (L : grid1.Coords) (b : Ref sig .scVector) : DevRef τ sig := (Proc.scVector (cV L) (jV L)).devRef b

theorem own_ne {b b' : Ref sig .scVector} (h : b ≠ b') : own L b ≠ own L b' := fun e => h (Proc.devRef_injective _ e)

/-- The tile's own buffers: the four scratches, each at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase (own L cc1_scratch0)).erase (own L cc1_scratch1)).erase (own L cc1_scratch2)).erase
              (own L cc1_scratch3)) fun b => iprop(∃ f, ((d, b) : Loc nD τ sig) ↦{fullShare} f)) := by
  unfold SparseCore.Cfg.ownBufs
  have hm : ∀ b : Ref sig .scVector, (own L b).owner = .proc (Proc.scVector (cV L) (jV L)) → own L b ∈ ownRefs (τ := τ) (.scVector (cV L) (jV L)) := fun b h =>
    SparseCore.Cfg.mem_ownRefs_of_owner (p := Proc.scVector (cV L) (jV L)) h
  refine (SparseCore.bigSep_erase' (hm cc1_scratch0 rfl)).trans ?_
  rw [SparseCore.bigSep_erase' (Finset.mem_erase.mpr ⟨own_ne L (by decide), hm cc1_scratch1 rfl⟩),
    SparseCore.bigSep_erase' (Finset.mem_erase.mpr ⟨own_ne L (by decide), Finset.mem_erase.mpr ⟨own_ne L (by decide), hm cc1_scratch2 rfl⟩⟩),
    SparseCore.bigSep_erase' (Finset.mem_erase.mpr ⟨own_ne L (by decide), Finset.mem_erase.mpr ⟨own_ne L (by decide),
      Finset.mem_erase.mpr ⟨own_ne L (by decide), hm cc1_scratch3 rfl⟩⟩⟩)]

end Cert.Proof

end
-- ==== Proof.TileRun.lean ====
/-
  The run of one tile's task.
-/
module

public import proofs.«01_k».proof.Proof.Tile
public import Idealize.ShloMosaic.Lib.WritesUnit

@[expose] public section

noncomputable section

namespace Cert.Proof

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's operands and scratches as the body table passes them, closed
local notation "rV" => (Memref.whole Cert.KernelIdeal.main_v2_scv : Memref Cert.KernelIdeal.sig Kind.scVector Space.hbm Cert.KernelIdeal.S2048 EltTy.f32)
local notation "gV" => (Memref.whole Cert.KernelIdeal.main_v3_scv : Memref Cert.KernelIdeal.sig Kind.scVector Space.hbm Cert.KernelIdeal.S2048 EltTy.f32)
local notation "tV" => (Memref.whole Cert.KernelIdeal.main_arg1_scv : Memref Cert.KernelIdeal.sig Kind.scVector Space.hbm Cert.KernelIdeal.S2048 EltTy.i32)
local notation "oV" => (Memref.whole Cert.KernelIdeal.main_v4_scv : Memref Cert.KernelIdeal.sig Kind.scVector Space.hbm Cert.KernelIdeal.S16x2x16 EltTy.f32)
local notation "sR" => (Memref.whole Cert.KernelIdeal.cc1_scratch0 : Memref Cert.KernelIdeal.sig Kind.scVector Space.vmem Cert.KernelIdeal.S128 EltTy.f32)
local notation "sG" => (Memref.whole Cert.KernelIdeal.cc1_scratch1 : Memref Cert.KernelIdeal.sig Kind.scVector Space.vmem Cert.KernelIdeal.S128 EltTy.f32)
local notation "sT" => (Memref.whole Cert.KernelIdeal.cc1_scratch2 : Memref Cert.KernelIdeal.sig Kind.scVector Space.vmem Cert.KernelIdeal.S128 EltTy.i32)
local notation "sP" => (Memref.whole Cert.KernelIdeal.cc1_scratch3 : Memref Cert.KernelIdeal.sig Kind.scVector Space.vmem Cert.KernelIdeal.S2x16 EltTy.f32)

variable [FloatOps F] [Named F] (d : Dev nD) (L : grid1.Coords)

omit [FloatOps F] [Named F] in
/-- A sixteen-lane load out of a tile's 128 rows reads the group of the array that begins there. -/
theorem group_emb {α : Type} (f : S2048.Idx → α) (o : Fin 1 → ℕ) (inb : ∀ a, o a + S16.size a ≤ S128.size a) (x : S16.Idx) :
    f ((rowK L).emb ((Rect.unit (s := S128) o S16.size inb).emb x)) = group f (L 1).val (o 0) x := by
  refine congrArg f (funext fun | 0 => Fin.ext ?_)
  have h1 : (L 1).val < 16 := (L 1).isLt
  have h2 : o 0 + 16 ≤ 128 := inb 0
  have h3 : (x 0).val < 16 := (x 0).isLt
  have h4 : k1_off1 L 0 = 128 * (L 1).val := congrFun (k1_off1_eq L) 0
  show k1_off1 L 0 + 1 * (o 0 + 1 * (x 0).val) = (128 * (L 1).val + o 0 + (x 0).val) % 2048
  rw [h4, Nat.mod_eq_of_lt (by omega)]; omega

omit [FloatOps F] [Named F] in
theorem load_r (rs : Buf (Elt F) (rLoc d)) (f : (sR).view.ty.Contents (Elt F)) (o : Fin 1 → ℕ) (inb : ∀ a, o a + S16.size a ≤ S128.size a) :
    View.readAt (Elt F) (sR).view (Rect.unit (s := S128) o S16.size inb).toLoadRect
      (View.write (Elt F) (sR).view f (ReadAs.same.apply (View.read (Elt F) (rRow L).view rs)) Finset.univ)
      = group (rs : S2048.Idx → F .f32) (L 1).val (o 0) := by
  funext x
  rw [View.readAt_apply, View.read_write_univ]
  exact group_emb L (rs : S2048.Idx → F .f32) o inb x
omit [FloatOps F] [Named F] in
theorem load_g (g : Buf (Elt F) (gLoc d)) (f : (sG).view.ty.Contents (Elt F)) (o : Fin 1 → ℕ) (inb : ∀ a, o a + S16.size a ≤ S128.size a) :
    View.readAt (Elt F) (sG).view (Rect.unit (s := S128) o S16.size inb).toLoadRect
      (View.write (Elt F) (sG).view f (ReadAs.same.apply (View.read (Elt F) (gRow L).view g)) Finset.univ)
      = group (g : S2048.Idx → F .f32) (L 1).val (o 0) := by
  funext x
  rw [View.readAt_apply, View.read_write_univ]
  exact group_emb L (g : S2048.Idx → F .f32) o inb x
omit [FloatOps F] [Named F] in
theorem load_t (t : Buf (Elt F) (tLoc d)) (f : (sT).view.ty.Contents (Elt F)) (o : Fin 1 → ℕ) (inb : ∀ a, o a + S16.size a ≤ S128.size a) :
    View.readAt (Elt F) (sT).view (Rect.unit (s := S128) o S16.size inb).toLoadRect
      (View.write (Elt F) (sT).view f (ReadAs.same.apply (View.read (Elt F) (tRow L).view t)) Finset.univ)
      = group (t : S2048.Idx → BitVec 32) (L 1).val (o 0) := by
  funext x
  rw [View.readAt_apply, View.read_write_univ]
  exact group_emb L (t : S2048.Idx → BitVec 32) o inb x

/-- Tile `w`'s place in the array of partial sums, read as two rows of sixteen. -/
theorem out_emb (rs g : S2048.Idx → F .f32) (t : S2048.Idx → BitVec 32) (x : S2x16.Idx) :
    partials rs g t ((oRow L).view.emb x) = if (x 0).val = 0 then accN rs g t (L 1).val 8 (lane (x 1)) else accT t (L 1).val 8 (lane (x 1)) := by
  have h : (oRow L).view.emb x = (outK L).emb (Fin.cons (⟨0, Nat.one_pos⟩ : Fin 1) x) :=
    shapeCast_dropUnit_apply (α := S16x2x16.Idx) ![2, 16] (fun y => (outK L).emb y) squeezes_S1x2x16_S2x16.numel_eq x
  have h0 : (((outK L).emb (Fin.cons (⟨0, Nat.one_pos⟩ : Fin 1) x)) 0).val = (L 1).val := by
    show k1_off2 L 0 + 1 * 0 = _
    rw [k1_off2_eq]; rfl
  have h1 : (((outK L).emb (Fin.cons (⟨0, Nat.one_pos⟩ : Fin 1) x)) 1).val = (x 0).val := by
    show k1_off2 L 1 + 1 * (x 0).val = _
    rw [k1_off2_eq]; show 0 + 1 * (x 0).val = _; omega
  have h2 : (((outK L).emb (Fin.cons (⟨0, Nat.one_pos⟩ : Fin 1) x)) 2 : Fin 16) = x 1 := Fin.ext (by
    show k1_off2 L 2 + 1 * (x 1).val = _
    rw [k1_off2_eq]; show 0 + 1 * (x 1).val = _; omega)
  rw [h, partials, h0, h1, h2]

/-- Lane `j` of a row of sixteen. -/
def oneRow (j : Fin 16) : S1x16.Idx := fun | 0 => (0 : Fin 1) | 1 => j

/-- The two stores, each of a row of sixteen, read back. -/
theorem scratch_rows (f : (sP).view.ty.Contents (Elt F)) (a b : FVec F S16 .f32) (x : S2x16.Idx) :
    View.read (Elt F) (sP).view ((sP).view.writes (Elt F) f
      [⟨Rect.unit (s := S2x16) ![1, 0] S1x16.size inb_S2x16_S1x16_1_0, shapeCast S1x16 b shapeCasts_S16_S1x16⟩,
        ⟨Rect.unit (s := S2x16) ![0, 0] S1x16.size inb_S2x16_S1x16_0_0, shapeCast S1x16 a shapeCasts_S16_S1x16⟩]) x
      = if (x 0).val = 0 then a (lane (x 1)) else b (lane (x 1)) := by
  have hx : (x 0).val < 2 := (x 0).isLt
  have hc : ∀ v : FVec F S16 .f32, shapeCast S1x16 v shapeCasts_S16_S1x16 (oneRow (x 1)) = v (lane (x 1)) := fun v =>
    (shapeCast_addUnit_apply (α := F .f32) ![16] v shapeCasts_S16_S1x16 (oneRow (x 1))).trans (congrArg v (funext fun | 0 => rfl))
  by_cases h : (x 0).val = 0
  · rw [if_pos h]
    refine (View.read_writes_cons_rows_of_not_mem (size := S1x16.size) (W := 1) _ _ _ _ _ x rfl rfl (.inl (by omega))).trans ?_
    exact (View.read_writes_cons_rows_of_mem (size := S1x16.size) _ _ _ _ _ x (oneRow (x 1)) rfl (by rw [h]; rfl) rfl).trans (hc a)
  · rw [if_neg h]
    exact (View.read_writes_cons_rows_of_mem (size := S1x16.size) (o := 1) _ _ _ _ _ x (oneRow (x 1)) rfl (by show _ = 1 + 0; omega) rfl).trans (hc b)

/-- What the copy out leaves at the tile's place is that place's partial sums. -/
theorem out_pts (rs g : S2048.Idx → F .f32) (t : S2048.Idx → BitVec 32) (o : Buf (Elt F) (oLoc d)) (f : (sP).view.ty.Contents (Elt F)) :
    ((oRow L).view.loc (V d (cV L) (jV L)) ↦[(oRow L).view.set]{fullShare} (oRow L).view.writes (Elt F) o
      [⟨Rect.whole S2x16, ReadAs.same.apply (View.read (Elt F) (sP).view ((sP).view.writes (Elt F) f
        [⟨Rect.unit (s := S2x16) ![1, 0] S1x16.size inb_S2x16_S1x16_1_0, shapeCast S1x16 (accT t (L 1).val 8) shapeCasts_S16_S1x16⟩,
        ⟨Rect.unit (s := S2x16) ![0, 0] S1x16.size inb_S2x16_S1x16_0_0, shapeCast S1x16 (accN rs g t (L 1).val 8) shapeCasts_S16_S1x16⟩]))⟩] : sProp 𝕄)
      ⊢ oPts d (jL L) (partials rs g t : S16x2x16.Idx → F .f32) := by
  refine (Entails.of_eq (pointsTo_congr fun i hi => ?_)).trans (Entails.of_eq (pts_oRow (F := F) d L _))
  obtain ⟨x, -, rfl⟩ := Finset.mem_map.mp hi
  refine Eq.trans ?_ (out_emb L rs g t x).symm
  refine Eq.trans ?_ (scratch_rows f _ _ x)
  exact congrFun (View.read_writes_whole (oRow L).view o _) x

/-- One tile's task, from the tile's pieces of the four arrays to the same pieces, the last at its partial sums. -/
theorem tile_body (rs : Buf (Elt F) (rLoc d)) (g : Buf (Elt F) (gLoc d)) (t : Buf (Elt F) (tLoc d)) (o : Buf (Elt F) (oLoc d))
    (hF : (K (F := F)).Facts) (O : CellTallies nD τ sig (HIx 1)) (W : Waits sig (HIx 1)) (hO : ∀ g, O g none = 0) :
    iprop(levAts (K (F := F)).L (K (F := F)).lev ∗ emp
        ∗ (rPts d (jL L) rs ∗ gPts d (jL L) g ∗ tPts d (jL L) t
          ∗ oPts d (jL L) o)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L rV (Memref.isWhole_whole _) gV (Memref.isWhole_whole _) tV (Memref.isWhole_whole _) oV (Memref.isWhole_whole _)
            sR (Memref.isWhole_whole _) sG (Memref.isWhole_whole _) sT (Memref.isWhole_whole _) sP (Memref.isWhole_whole _)
            cc1_scoped0 cc1_scoped1 cc1_scoped2 cc1_scoped3)
          fun _ => iprop((rPts d (jL L) rs ∗ gPts d (jL L) g ∗ tPts d (jL L) t
              ∗ oPts d (jL L) (partials rs g t : S16x2x16.Idx → F .f32))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hr, Hg, Ht, Ho⟩, ⟨⟨%f0, Hs0⟩, ⟨%f1, Hs1⟩, ⟨%f2, Hs2⟩, ⟨%f3, Hs3⟩, Hbufs⟩, ⟨Hc0, Hc1, Hc2, Hc3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hr' := (Entails.of_eq (pts_rRow (F := F) d L _).symm) $$ Hr
  ihave Hg' := (Entails.of_eq (pts_gRow (F := F) d L _).symm) $$ Hg
  ihave Ht' := (Entails.of_eq (pts_tRow (F := F) d L _).symm) $$ Ht
  ihave Ho' := (Entails.of_eq (pts_oRow (F := F) d L _).symm) $$ Ho
  ihave Hs0' := (show ((V d (cV L) (jV L)).loc cc1_scratch0 ↦{fullShare} f0 : sProp 𝕄) ⊢ (sR).view.loc (V d (cV L) (jV L)) ↦{fullShare} f0 from Entails.of_eq rfl) $$ Hs0
  ihave Hs1' := (show ((V d (cV L) (jV L)).loc cc1_scratch1 ↦{fullShare} f1 : sProp 𝕄) ⊢ (sG).view.loc (V d (cV L) (jV L)) ↦{fullShare} f1 from Entails.of_eq rfl) $$ Hs1
  ihave Hs2' := (show ((V d (cV L) (jV L)).loc cc1_scratch2 ↦{fullShare} f2 : sProp 𝕄) ⊢ (sT).view.loc (V d (cV L) (jV L)) ↦{fullShare} f2 from Entails.of_eq rfl) $$ Hs2
  ihave Hs3' := (show ((V d (cV L) (jV L)).loc cc1_scratch3 ↦{fullShare} f3 : sProp 𝕄) ⊢ (sP).view.loc (V d (cV L) (jV L)) ↦{fullShare} f3 from Entails.of_eq rfl) $$ Hs3
  rw [cc1__sc_body_eq_skeleton]
  sl_exec
  sl_step
  have hL : tile_body.sl.Hs3'_2 d L rs g t f0 f1 f2
      = [⟨Rect.unit (s := S2x16) ![1, 0] S1x16.size inb_S2x16_S1x16_1_0, shapeCast S1x16 (accT t (L 1).val 8) shapeCasts_S16_S1x16⟩,
        ⟨Rect.unit (s := S2x16) ![0, 0] S1x16.size inb_S2x16_S1x16_0_0, shapeCast S1x16 (accN rs g t (L 1).val 8) shapeCasts_S16_S1x16⟩] := by
    delta tile_body.sl.Hs3'_2 tile_body.sl.r_13 tile_body.sl.r_14 tile_body.sl.r_15 tile_body.sl.r_16 tile_body.sl.r_17 tile_body.sl.r_8 tile_body.sl.r_9
      tile_body.sl.r_10 tile_body.sl.r_11 tile_body.sl.r_12 tile_body.sl.r_4 tile_body.sl.r_5 tile_body.sl.r_6 tile_body.sl.r_7 tile_body.sl.r tile_body.sl.r_1
      tile_body.sl.r_2 tile_body.sl.r_3 tile_body.sl.dma0 tile_body.sl.dma0_1 tile_body.sl.dma0_2
    repeat rw [load_r]
    repeat rw [load_g]
    repeat rw [load_t]
    rw [step_pay5, step_pay10, step_pay16, step_pay23, step_pay2, step_pay6, step_pay11, step_pay17, step_pay24, step_pay3]
    rfl
  isplitl [Hr' Hg' Ht' Ho']
  · isplitl [Hr']; · iapply (Entails.of_eq (pts_rRow (F := F) d L _)); iexact Hr'
    isplitl [Hg']; · iapply (Entails.of_eq (pts_gRow (F := F) d L _)); iexact Hg'
    isplitl [Ht']; · iapply (Entails.of_eq (pts_tRow (F := F) d L _)); iexact Ht'
    iapply (out_pts (F := F) d L rs g t o f3)
    rw [← hL]; iexact Ho'
  isplitl [Hs0' Hs1' Hs2' Hs3' Hbufs]
  · isplitl [Hs0']; · iexists _; iexact Hs0'
    isplitl [Hs1']; · iexists _; iexact Hs1'
    isplitl [Hs2']; · iexists _; iexact Hs2'
    isplitl [Hs3']; · iexists _; iexact Hs3'
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists _; isplitr
  swap; · iexact HO
  ipureintro; intro p _
  rcases p.2 with _ | q
  · exact .inr (.inl rfl)
  · exact .inr (.inr (congrArg some (Subsingleton.elim q 0)))

end Cert.Proof

end
-- ==== Proof.Call.lean ====
/-
  The SparseCore call: what its handshakes carry, each tile's obligation, and how the four arrays split into the tiles' pieces and come
  back together.
-/
module

public import proofs.«01_k».proof.Proof.TileRun

@[expose] public section

noncomputable section

namespace Cert.Proof

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's operands and scratches as the body table passes them, closed
local notation "rV" => (Memref.whole Cert.KernelIdeal.main_v2_scv : Memref Cert.KernelIdeal.sig Kind.scVector Space.hbm Cert.KernelIdeal.S2048 EltTy.f32)
local notation "gV" => (Memref.whole Cert.KernelIdeal.main_v3_scv : Memref Cert.KernelIdeal.sig Kind.scVector Space.hbm Cert.KernelIdeal.S2048 EltTy.f32)
local notation "tV" => (Memref.whole Cert.KernelIdeal.main_arg1_scv : Memref Cert.KernelIdeal.sig Kind.scVector Space.hbm Cert.KernelIdeal.S2048 EltTy.i32)
local notation "oV" => (Memref.whole Cert.KernelIdeal.main_v4_scv : Memref Cert.KernelIdeal.sig Kind.scVector Space.hbm Cert.KernelIdeal.S16x2x16 EltTy.f32)
local notation "sR" => (Memref.whole Cert.KernelIdeal.cc1_scratch0 : Memref Cert.KernelIdeal.sig Kind.scVector Space.vmem Cert.KernelIdeal.S128 EltTy.f32)
local notation "sG" => (Memref.whole Cert.KernelIdeal.cc1_scratch1 : Memref Cert.KernelIdeal.sig Kind.scVector Space.vmem Cert.KernelIdeal.S128 EltTy.f32)
local notation "sT" => (Memref.whole Cert.KernelIdeal.cc1_scratch2 : Memref Cert.KernelIdeal.sig Kind.scVector Space.vmem Cert.KernelIdeal.S128 EltTy.i32)
local notation "sP" => (Memref.whole Cert.KernelIdeal.cc1_scratch3 : Memref Cert.KernelIdeal.sig Kind.scVector Space.vmem Cert.KernelIdeal.S2x16 EltTy.f32)

variable [FloatOps F] [Named F]

/-- The contents the call finds: row sums, target entries, targets, and the array of partial sums before it is written. -/
structure Found (F : FTy → Type) where
  rs : (d : Dev nD) → Buf (Elt F) (rLoc d)
  g : (d : Dev nD) → Buf (Elt F) (gLoc d)
  t : (d : Dev nD) → Buf (Elt F) (tLoc d)
  o : (d : Dev nD) → Buf (Elt F) (oLoc d)

variable (A : Found F)

/-- The array of partial sums the call leaves. -/
def Found.out (A : Found F) (d : Dev nD) : Buf (Elt F) (oLoc d) := (partials (A.rs d) (A.g d) (A.t d) : S16x2x16.Idx → F .f32)

/-- The four arrays whole, and one tile's piece of each. -/
abbrev whole4 (d : Dev nD) (o : Buf (Elt F) (oLoc d)) : sProp 𝕄 :=
  iprop((rLoc d ↦{fullShare} A.rs d) ∗ (gLoc d ↦{fullShare} A.g d) ∗ (tLoc d ↦{fullShare} A.t d) ∗ (oLoc d ↦{fullShare} o))
abbrev piece4 (d : Dev nD) (i : Fin 16) (o : Buf (Elt F) (oLoc d)) : sProp 𝕄 :=
  iprop(rPts d i (A.rs d) ∗ gPts d i (A.g d) ∗ tPts d i (A.t d) ∗ oPts d i o)

/-- The one call takes the four arrays whole, each tile its piece of them, and brings them back with the partial sums written. -/
def P : (K (F := F)).Pay (nD := nD) (Val := Elt F) (Name := ℕ) (U := UU) where
  st := fun q d _ => match q with | 0 => whole4 A d (A.o d)
  dn := fun q d _ => match q with | 0 => whole4 A d (A.out d)
  go := fun q d _ i => match q with | 0 => piece4 A d (Fin.cast nSub_zero i) (A.o d)
  td := fun q d _ i => match q with | 0 => piece4 A d (Fin.cast nSub_zero i) (A.out d)
  x := fun _ _ => iprop(emp)

instance P_storable : (P A).IsStorable where
  st q d _ := match q with | 0 => (inferInstance : BI.Storable (upEmb : UEmb _ 𝕄) (whole4 A d (A.o d)))
  dn q d _ := match q with | 0 => (inferInstance : BI.Storable (upEmb : UEmb _ 𝕄) (whole4 A d (A.out d)))
  go q d _ i := match q with | 0 => (inferInstance : BI.Storable (upEmb : UEmb _ 𝕄) (piece4 A d (Fin.cast nSub_zero i) (A.o d)))
  td q d _ i := match q with | 0 => (inferInstance : BI.Storable (upEmb : UEmb _ 𝕄) (piece4 A d (Fin.cast nSub_zero i) (A.out d)))

/-! ## A tile's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s)
          rV (Memref.isWhole_whole _) gV (Memref.isWhole_whole _) tV (Memref.isWhole_whole _) oV (Memref.isWhole_whole _)
          sR (Memref.isWhole_whole _) sG (Memref.isWhole_whole _) sT (Memref.isWhole_whole _) sP (Memref.isWhole_whole _)
          cc1_scoped0 cc1_scoped1 cc1_scoped2 cc1_scoped3) ⟨⟩ c s := rfl

theorem tileObl (hF : (K (F := F)).Facts) : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (A.rs d) (A.g d) (A.t d) (A.o d) hF O W hO

/-! ## The arrays split into the tiles' pieces and join again -/

omit [FloatOps F] [Named F] in
theorem rPts_rows (d : Dev nD) (f : Buf (Elt F) (rLoc d)) :
    (rLoc d ↦{fullShare} f : sProp 𝕄) = bigSep Finset.univ fun i : Fin 16 => rPts d i f := by
  rw [← pointsTo_biUnion Finset.univ (ℓ := rLoc d) rowSet (fun i _ j _ h => Rect.part_disjoint hdivRow h),
    show Finset.univ.biUnion rowSet = Finset.univ from Rect.biUnion_part hdivRow]; try rfl
omit [FloatOps F] [Named F] in
theorem gPts_rows (d : Dev nD) (f : Buf (Elt F) (gLoc d)) :
    (gLoc d ↦{fullShare} f : sProp 𝕄) = bigSep Finset.univ fun i : Fin 16 => gPts d i f := by
  rw [← pointsTo_biUnion Finset.univ (ℓ := gLoc d) rowSet (fun i _ j _ h => Rect.part_disjoint hdivRow h),
    show Finset.univ.biUnion rowSet = Finset.univ from Rect.biUnion_part hdivRow]; try rfl
omit [FloatOps F] [Named F] in
theorem tPts_rows (d : Dev nD) (f : Buf (Elt F) (tLoc d)) :
    (tLoc d ↦{fullShare} f : sProp 𝕄) = bigSep Finset.univ fun i : Fin 16 => tPts d i f := by
  rw [← pointsTo_biUnion Finset.univ (ℓ := tLoc d) rowSet (fun i _ j _ h => Rect.part_disjoint hdivRow h),
    show Finset.univ.biUnion rowSet = Finset.univ from Rect.biUnion_part hdivRow]; try rfl
omit [FloatOps F] [Named F] in
theorem oPts_rows (d : Dev nD) (f : Buf (Elt F) (oLoc d)) :
    (oLoc d ↦{fullShare} f : sProp 𝕄) = bigSep Finset.univ fun i : Fin 16 => oPts d i f := by
  rw [← pointsTo_biUnion Finset.univ (ℓ := oLoc d) outSet (fun i _ j _ h => Rect.part_disjoint hdivOut h),
    show Finset.univ.biUnion outSet = Finset.univ from Rect.biUnion_part hdivOut]; try rfl

/-- The tiles' pieces, the partial sums at `o`, are the arrays whole. -/
theorem pieces_whole (d : Dev nD) (o : Buf (Elt F) (oLoc d)) :
    (bigSep Finset.univ fun i : Fin ((K (F := F)).nSub 0) => piece4 A d (Fin.cast nSub_zero i) o) = whole4 A d o := by
  rw [show (bigSep Finset.univ fun i : Fin ((K (F := F)).nSub 0) => piece4 A d (Fin.cast nSub_zero i) o) = bigSep Finset.univ fun i : Fin 16 => piece4 A d i o from
    bigSep_congr fun _ _ => congrArg (fun i => piece4 A d i o) (Fin.ext rfl)]
  rw [bigSep_sep', bigSep_sep', bigSep_sep', ← rPts_rows, ← gPts_rows, ← tPts_rows, ← oPts_rows]

theorem vecSplit : (K (F := F)).VecSplit' (P A) 0 := by
  intro d c
  show whole4 A d (A.o d) ⊢ |={Set.univ}=> iprop(
      (bigSep Finset.univ fun i : Fin ((K (F := F)).nSub 0) => piece4 A d (Fin.cast nSub_zero i) (A.o d))
      ∗ ((bigSep Finset.univ fun i : Fin ((K (F := F)).nSub 0) => piece4 A d (Fin.cast nSub_zero i) (A.out d)) -∗ whole4 A d (A.out d)))
  rw [pieces_whole, pieces_whole]
  iintro H; imodintro
  isplitl [H]; · iexact H
  iintro H; iexact H

end Cert.Proof

end
-- ==== Proof.Steps.lean ====
/-
  @main, step by step: what the TensorCore's arrays hold before and after each of its eight statements.

  The arrays' contents are carried as one valuation. The reshapes and the two pipelines change it as computed elsewhere; the SparseCore
  call takes four arrays out, and puts them back with the partial sums written.
-/
module

public import proofs.«01_k».proof.Proof.Combine
public import proofs.«01_k».proof.Proof.Call

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat Cfg Window BodyObligation)

variable {F : FTy → Type} [FloatOps F] [Named F]

/-! ## The arrays, and the valuations between the statements -/

abbrev x' : DevRef τ sig := Proc.devRef .tc (main_arg0 : Ref sig .tc)
abbrev t' : DevRef τ sig := Proc.devRef .tc (main_arg1 : Ref sig .tc)
abbrev t3' : DevRef τ sig := Proc.devRef .tc (main_v0 : Ref sig .tc)
abbrev rs3' : DevRef τ sig := Proc.devRef .tc (main_v1_0 : Ref sig .tc)
abbrev g3' : DevRef τ sig := Proc.devRef .tc (main_v1_1 : Ref sig .tc)
abbrev rs' : DevRef τ sig := Proc.devRef .tc (main_v2 : Ref sig .tc)
abbrev g' : DevRef τ sig := Proc.devRef .tc (main_v3 : Ref sig .tc)
abbrev parts' : DevRef τ sig := Proc.devRef .tc (main_v4 : Ref sig .tc)
abbrev q11' : DevRef τ sig := Proc.devRef .tc (main_v5 : Ref sig .tc)
abbrev out' : DevRef τ sig := Proc.devRef .tc (main_v6 : Ref sig .tc)

/-- The TensorCore's unscoped arrays: all ten. -/
abbrev arrays : Finset (DevRef τ sig) := {x', t', t3', rs3', g3', rs', g', parts', q11', out'}
/-- Those the SparseCore call takes. -/
abbrev lent : Finset (DevRef τ sig) := {rs', g', t', parts'}

abbrev opT : HloOp τ sig (Elt F) := StableHlo.reshape main_arg1 main_v0 (rfl : (.i32 : EltTy) = .i32) shapeCasts_S2048_S16x1x128
abbrev opR : HloOp τ sig (Elt F) := StableHlo.reshape main_v1_0 main_v2 (rfl : (.f32 : EltTy) = .f32) shapeCasts_S16x1x128_S2048
abbrev opG : HloOp τ sig (Elt F) := StableHlo.reshape main_v1_1 main_v3 (rfl : (.f32 : EltTy) = .f32) shapeCasts_S16x1x128_S2048
abbrev opO : HloOp τ sig (Elt F) := StableHlo.reshape main_v5 main_v6 (rfl : (.f32 : EltTy) = .f32) shapeCasts_S1x1_S_

variable (W : Valuation τ sig (Elt F))

/-- After the streaming pipeline, after the SparseCore call, and after the last pipeline. -/
def streamed : Valuation τ sig (Elt F) :=
  Function.update (Function.update W rs3' (rowSums (F := F) (W x'))) g3' (rowPicks (F := F) (W x') (W t3'))
def called : Valuation τ sig (Elt F) := Function.update W parts' (partials (F := F) (W rs') (W g') (W t'))
def divided : Valuation τ sig (Elt F) := Function.update W q11' (fun _ => combined (F := F) (W parts'))

theorem streamed_rs : streamed W rs3' = rowSums (F := F) (W x') := by
  unfold streamed
  rw [Function.update_of_ne (by decide), Function.update_self]
theorem streamed_g : streamed W g3' = rowPicks (F := F) (W x') (W t3') := by unfold streamed; rw [Function.update_self]
theorem called_parts : called W parts' = partials (F := F) (W rs') (W g') (W t') := by unfold called; rw [Function.update_self]
theorem called_of_ne {b : DevRef τ sig} (h : b ≠ parts') : called W b = W b := by unfold called; rw [Function.update_of_ne h]
theorem divided_q : divided W q11' = fun _ => combined (F := F) (W parts') := by unfold divided; rw [Function.update_self]

/-- Before the call, and at the end. -/
def before : Valuation τ sig (Elt F) := (opG (F := F)).result ((opR (F := F)).result (streamed ((opT (F := F)).result W)))
def after : Valuation τ sig (Elt F) := (opO (F := F)).result (divided (called (before W)))

/-! ## The arrays as one holding -/

theorem arrays_held (d : Dev nD) : (unscopedBufs d (fun b => W b) : sProp (MM F)) = held (SparseCore.T d) arrays W := by
  unfold unscopedBufs held
  rw [show arrays = (Finset.univ.filter fun b : Ref sig .tc => ¬ b.isScoped).map ⟨Proc.devRef .tc, Proc.devRef_injective (sig := sig) (.tc : Proc τ)⟩ from by decide, bigSep_map]
  rfl

theorem lent_held (d : Dev nD) : (held (SparseCore.T d) lent W : sProp (MM F))
    = iprop((rLoc d ↦{fullShare} W rs') ∗ (gLoc d ↦{fullShare} W g') ∗ (tLoc d ↦{fullShare} W t') ∗ (oLoc d ↦{fullShare} W parts')) := by
  unfold held
  rw [SparseCore.bigSep_insert' (by decide), SparseCore.bigSep_insert' (by decide), SparseCore.bigSep_insert' (by decide), bigSep_singleton]

theorem called_rest (d : Dev nD) : (held (SparseCore.T d) (arrays \ lent) (called W) : sProp (MM F)) = held (SparseCore.T d) (arrays \ lent) W :=
  StableHlo.held_congr _ fun b hb => Function.update_of_ne (fun h => by subst h; revert hb; decide) _ _

/-! ## The two pipelines -/

/-- Both pipelines' proof data at one valuation. -/
abbrev afters (V : Vals F) : (p : Fin 2) → Dev nD → After F p
  | 0 => after0 V
  | 1 => after1 V

theorem wp_region [∀ e, Nonempty (Elt F e)] (n : ℕ) (V V' : Vals F) (p : Fin 2)
    (R : Pipeline.RegionSeg (pcfgs (F := F)) adm (dats n V (afters V)) none defs₀ 𝒱₀ (K (F := F)).L (K (F := F)).lev p)
    (c : Dev nD) (Q : PUnit → sProp (MM F)) :
    iprop((iprop(boundary (c : Thread nD τ) ∗ R.post c) -∗ Q ⟨⟩) ∗ boundary (c : Thread nD τ) ∗ R.pre c ∗ levAts (K (F := F)).L (K (F := F)).lev
        ∗ Pipeline.cellsGhost (pinned (F := F)) EP p c ∗ Pipeline.toksInit (pinned (F := F)) EP p c)
      ⊢ wp frame (wpE ((K (F := F)).defs (D (F := F))) 𝒱 (SparseCore.T c) none) Set.univ
          (Prog.lift (.customCall (SparseCore.inner (Pipeline.entry p)) ())) Q := by
  refine BIBase.Entails.trans ?_ ((K (F := F)).wp_liftProg (D (F := F)) 𝒱 (SparseCore.T c) Set.univ none (Prog.lift (.customCall (Pipeline.entry p) ())) Q)
  refine BIBase.Entails.trans ?_ (Pipeline.RegionSeg.wp (pcfgs (F := F)) adm (dats n V (afters V)) none cellOf_inj EP defs₀ 𝒱₀ (K (F := F)).L (K (F := F)).lev R c none (by simp) .ret Q)
  iintro ⟨Hk, Hrest⟩
  isplitl [Hk]
  · rw [wp_ret]
    iintro H
    imodintro
    iapply Hk $$ H
  iexact Hrest

/-- The same valuation at every device. -/
abbrev everywhere : Vals F := fun _ b => W b

theorem stream_left (n : ℕ) (c : Dev nD) (w : Fin 4) :
    (dats n (everywhere W) (afters (everywhere W)) 0 c).arrAt w (pinned (F := F) 0).N
      = everywhere (streamed W) c (Pipeline.arrRef (pinned (F := F) 0).spec w) :=
  match w with
  | 0 => (Pipeline.Dat.arrAt_in _ 0 rfl _).trans
      (((Function.update_of_ne (show x' ≠ g3' by decide) _ _).trans (Function.update_of_ne (show x' ≠ rs3' by decide) _ _)).symm)
  | 1 => (Pipeline.Dat.arrAt_in _ 1 rfl _).trans
      (((Function.update_of_ne (show t3' ≠ g3' by decide) _ _).trans (Function.update_of_ne (show t3' ≠ rs3' by decide) _ _)).symm)
  | 2 => (left0_2 n (everywhere W) c).trans
      (streamed_rs W).symm
  | 3 => (left0_3 n (everywhere W) c).trans (streamed_g W).symm

theorem stream_rest (c : Dev nD) (b : Ref sig .tc) (hb : b ∉ Finset.univ.image (Pipeline.arrRef (pinned (F := F) 0).spec)) :
    everywhere (streamed W) c b = everywhere W c b := by
  have hne (w : Fin 4) : Proc.devRef .tc b ≠ Proc.devRef .tc (Pipeline.arrRef (pinned (F := F) 0).spec w) := fun h =>
    hb (Finset.mem_image.mpr ⟨w, Finset.mem_univ _, (Proc.devRef_injective (sig := sig) (.tc : Proc τ) h).symm⟩)
  exact (Function.update_of_ne (hne 3) _ _).trans (Function.update_of_ne (hne 2) _ _)

theorem divide_left (n : ℕ) (c : Dev nD) (w : Fin 2) :
    (dats n (everywhere W) (afters (everywhere W)) 1 c).arrAt w (pinned (F := F) 1).N
      = everywhere (divided W) c (Pipeline.arrRef (pinned (F := F) 1).spec w) :=
  match w with
  | 0 => (Pipeline.Dat.arrAt_in _ 0 rfl _).trans (Function.update_of_ne (show parts' ≠ q11' by decide) _ _).symm
  | 1 => (left1_1 n (everywhere W) c).trans (divided_q W).symm

theorem divide_rest (c : Dev nD) (b : Ref sig .tc) (hb : b ∉ Finset.univ.image (Pipeline.arrRef (pinned (F := F) 1).spec)) :
    everywhere (divided W) c b = everywhere W c b :=
  Function.update_of_ne (fun h => hb (Finset.mem_image.mpr ⟨1, Finset.mem_univ _, (Proc.devRef_injective (sig := sig) (.tc : Proc τ) h).symm⟩)) _ _

/-- One pipeline's ghost state: its cells, and the tokens its copies need. -/
abbrev ghosts (p : Fin 2) (d : Dev nD) : sProp (MM F) :=
  iprop(Pipeline.cellsGhost (pinned (F := F)) EP p d ∗ Pipeline.toksInit (pinned (F := F)) EP p d)

theorem wp_stream [∀ e, Nonempty (Elt F e)] (d : Dev nD) (Q : PUnit → sProp (MM F)) :
    iprop((iprop(boundary (SparseCore.T d) ∗ owing 0 d ∗ held (SparseCore.T d) arrays (streamed W)) -∗ Q ⟨⟩)
        ∗ boundary (SparseCore.T d) ∗ owing 0 d ∗ held (SparseCore.T d) arrays W ∗ levAts (K (F := F)).L (K (F := F)).lev ∗ ghosts 0 d)
      ⊢ wp frame (wpE ((K (F := F)).defs (D (F := F))) 𝒱 (SparseCore.T d) none) Set.univ
          (Prog.lift (.customCall (SparseCore.inner (Pipeline.entry 0)) ())) Q := by
  refine BIBase.Entails.trans ?_ (wp_region 0 (everywhere W) (everywhere (streamed W)) 0
    (reg 0 (everywhere W) (everywhere (streamed W)) (afters (everywhere W)) 0 launch0 (fun c => stream_obligation 0 _ c)
      (fun c w => stream_left W 0 c w) (fun c b hb => stream_rest W c b hb)) d Q)
  unfold reg
  simp only [everywhere, arrays_held]
  iintro ⟨Hk, Hb, HO, Hh, Hl, Hg, Ht⟩
  isplitl [Hk]
  · iintro ⟨Hb, Hh, HO⟩
    iapply Hk
    isplitl [Hb]; · iexact Hb
    isplitl [HO] <;> iassumption
  isplitl [Hb]; · iexact Hb
  isplitl [HO Hh]; · isplitl [Hh] <;> iassumption
  isplitl [Hl]; · iexact Hl
  isplitl [Hg] <;> iassumption

theorem wp_divide [∀ e, Nonempty (Elt F e)] (d : Dev nD) (Q : PUnit → sProp (MM F)) :
    iprop((iprop(boundary (SparseCore.T d) ∗ owing 1 d ∗ held (SparseCore.T d) arrays (divided W)) -∗ Q ⟨⟩)
        ∗ boundary (SparseCore.T d) ∗ owing 1 d ∗ held (SparseCore.T d) arrays W ∗ levAts (K (F := F)).L (K (F := F)).lev ∗ ghosts 1 d)
      ⊢ wp frame (wpE ((K (F := F)).defs (D (F := F))) 𝒱 (SparseCore.T d) none) Set.univ
          (Prog.lift (.customCall (SparseCore.inner (Pipeline.entry 1)) ())) Q := by
  refine BIBase.Entails.trans ?_ (wp_region 1 (everywhere W) (everywhere (divided W)) 1
    (reg 1 (everywhere W) (everywhere (divided W)) (afters (everywhere W)) 1 launch2 (fun c => combine_obligation 1 _ c)
      (fun c w => divide_left W 1 c w) (fun c b hb => divide_rest W c b hb)) d Q)
  unfold reg
  simp only [everywhere, arrays_held]
  iintro ⟨Hk, Hb, HO, Hh, Hl, Hg, Ht⟩
  isplitl [Hk]
  · iintro ⟨Hb, Hh, HO⟩
    iapply Hk
    isplitl [Hb]; · iexact Hb
    isplitl [HO] <;> iassumption
  isplitl [Hb]; · iexact Hb
  isplitl [HO Hh]; · isplitl [Hh] <;> iassumption
  isplitl [Hl]; · iexact Hl
  isplitl [Hg] <;> iassumption

end Cert.Proof

end
-- ==== Proof.Main.lean ====
/-
  @main from end to end, at any float operations: each step in turn, then the launch theorem.
-/
module

public import proofs.«01_k».proof.Proof.Steps

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat Cfg Window BodyObligation)

variable {F : FTy → Type} [FloatOps F] [Named F]

variable (m : (ℓ : Loc nD τ sig) → Buf (Elt F) ℓ) (ρ : Dev nD → PrngReg)

/-- The arrays at launch, before the call, and at the end. -/
abbrev entry (d : Dev nD) : Valuation τ sig (Elt F) := fun b => m (d, b)
abbrev mid (d : Dev nD) : Valuation τ sig (Elt F) := before (entry m d)
abbrev final (d : Dev nD) : Valuation τ sig (Elt F) := after (entry m d)

/-- What the call finds. -/
def found : Found F where
  rs d := mid m d rs'
  g d := mid m d g'
  t d := mid m d t'
  o d := mid m d parts'

attribute [local irreducible] before after called

/-! ## The ghost state at launch -/

def u₀ : UU :=
  (initOf (K (F := F)).hsCells (K (F := F)).hsToks,
    (initOf (Pipeline.cells (pinned (F := F)) cellOf_inj) (Pipeline.launchToks (pinned (F := F)) cellOf_inj), 1))

/-- Both pipelines' ghost state at one device. -/
abbrev G (d : Dev nD) : sProp (MM F) := bigSep Finset.univ fun p : Fin 2 => ghosts p d

theorem hu₀ : (ownU (u₀ (F := F)) : sProp (MM F))
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P (found m)).x q thr) := by
  unfold u₀
  iintro Hu
  ihave H := (ownU_pair (initOf (K (F := F)).hsCells (K (F := F)).hsToks)
    ((initOf (Pipeline.cells (pinned (F := F)) cellOf_inj) (Pipeline.launchToks (pinned (F := F)) cellOf_inj), 1) : UP × Counters)) $$ Hu
  icases H with ⟨HH, HR⟩
  ihave H := (own_pair_emb (embR : Emb (UP × Counters) (MM F))
    (initOf (Pipeline.cells (pinned (F := F)) cellOf_inj) (Pipeline.launchToks (pinned (F := F)) cellOf_inj) : UP) (1 : Counters)) $$ HR
  icases H with ⟨HP, -⟩
  ihave H := (Pipeline.fund_ghost (pinned (F := F)) EP cellOf_inj) $$ HP
  imod H with ⟨Hc, Ht⟩
  imodintro
  isplitl [HH]; · iexact HH
  isplitl [Hc Ht]
  · unfold G ghosts
    simp only [bigSep_sep']
    isplitl [Hc] <;> iassumption
  rw [show (bigSep Finset.univ fun thr : Thread nD τ => bigSep Finset.univ fun q : Fin 1 => (P (found m)).x q thr) = bigSep Finset.univ fun _ => iprop(emp) from
    bigSep_congr fun _ _ => bigSep_univ_of_subsingleton (0 : Fin 1), show (bigSep Finset.univ fun _ : Thread nD τ => (iprop(emp) : sProp (MM F))) = iprop(emp) from BI.bigSep_emp_const _]
  iempintro

/-! ## The call -/

theorem st0_eq (d : Dev nD) :
    (bigSep Finset.univ fun c : Fin ((K (F := F)).nCore 0) => (P (found m)).st 0 d c) = held (SparseCore.T d) lent (mid m d) :=
  (bigSep_univ_of_subsingleton (0 : Fin 1)).trans (lent_held _ d).symm
theorem dn0_eq (d : Dev nD) :
    (bigSep Finset.univ fun c : Fin ((K (F := F)).nCore 0) => (P (found m)).dn 0 d c) = held (SparseCore.T d) lent (called (mid m d)) := by
  refine (bigSep_univ_of_subsingleton (0 : Fin 1)).trans (Eq.trans ?_ (lent_held _ d).symm)
  rw [called_parts, called_of_ne _ (show rs' ≠ parts' by decide), called_of_ne _ (show g' ≠ parts' by decide), called_of_ne _ (show t' ≠ parts' by decide)]
  rfl

/-- The call, over all the arrays. -/
theorem wp_call (κ : GSem nD τ sig → ℕ) (d : Dev nD) (Q : PUnit → sProp (MM F)) :
    iprop((K (F := F)).ctx EH (P (found m)) κ ∗ (K (F := F)).tcSt EH d 0 ∗ held (SparseCore.T d) arrays (mid m d)
        ∗ (iprop((K (F := F)).tcSt EH d 1 ∗ held (SparseCore.T d) arrays (called (mid m d))) -∗ Q ⟨⟩))
      ⊢ wp frame (wpE ((K (F := F)).defs (D (F := F))) 𝒱 (SparseCore.T d) none) Set.univ (sc.run d 0) Q := by
  have hsub : lent ⊆ arrays := by decide
  rw [StableHlo.held_sub_split _ hsub, StableHlo.held_sub_split _ hsub, called_rest]
  iintro ⟨Hctx, Hst, ⟨Hlent, Hrest⟩, Hk⟩
  iapply ((K (F := F)).wp_run (D (F := F)) 𝒱 (EH := EH) (P := P (found m)) κ d 0)
  isplitl [Hctx]; · iexact Hctx
  isplitl [Hst]; · iexact Hst
  rw [st0_eq, dn0_eq]
  isplitl [Hlent]; · iexact Hlent
  iintro ⟨Hst, Hdn⟩
  iapply Hk
  isplitl [Hst]; · iexact Hst
  isplitl [Hdn] <;> iassumption

/-- One statement of plain array code, over all the arrays. -/
theorem wp_op {op : HloOp τ sig (Elt F)} (hS : op.bufs ⊆ arrays) (hf : op.fresh = ∅) (W : Valuation τ sig (Elt F)) (d : Dev nD)
    (Q : PUnit → sProp (MM F)) :
    iprop(boundary (SparseCore.T d) ∗ held (SparseCore.T d) arrays W
        ∗ (iprop(boundary (SparseCore.T d) ∗ held (SparseCore.T d) arrays (op.result W)) -∗ Q ⟨⟩))
      ⊢ wp frame (wpE ((K (F := F)).defs (D (F := F))) 𝒱 (SparseCore.T d) none) Set.univ (hlo rfl op fun _ => .ret ⟨⟩) Q := by
  iintro ⟨Hb, Hh, Hk⟩
  iapply (wp_hlo_within 𝒱 (SparseCore.T d) none Set.univ hS (V := W) (hf := hf)) $$ [Hb Hh]
  · isplitl [Hb] <;> iassumption
  iintro H
  rw [wp_ret]; imodintro
  iapply Hk $$ H

/-! ## @main on the TensorCore -/

/-- What the TensorCore owes comes out of its state between calls, and goes back into it. -/
theorem owing_out (d : Dev nD) (n : ℕ) :
    (K (F := F)).tcSt EH d n ⊢ (iprop(owing n d ∗ (owing n d -∗ (K (F := F)).tcSt EH d n)) : sProp (MM F)) := by
  rw [show owing (F := F) n d = iprop(∃ W, ⌜(K (F := F)).WBelow (SparseCore.T d) W (8 * SparseCore.Cfg.Blocks.fst 1 1 n)⌝
    ∗ owes (SparseCore.T d) ((K (F := F)).Otc d n) W) from rfl]
  unfold SparseCore.Cfg.tcSt
  iintro ⟨HO, H⟩
  isplitl [HO]; · iexact HO
  iintro HO
  isplitl [HO] <;> iassumption

/-- What a device holds at the end: the arguments and the result. -/
abbrev ends : Finset (DevRef τ sig) := {x', t', out'}
abbrev FIN (d : Dev nD) : sProp (MM F) := held (SparseCore.T d) ends (final m d)

theorem hmain [∀ e, Nonempty (Elt F e)] (κ : GSem nD τ sig → ℕ) (d : Dev nD) :
    iprop((K (F := F)).ctx EH (P (found m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (fun b : Ref sig .tc => m ((SparseCore.T d).loc b)) = (fun b : Ref sig .tc => entry m d b) from rfl, arrays_held]
  simp only [main, wp_bind, wp_pure]
  rw [show (G d : sProp (MM F)) = iprop(ghosts 0 d ∗ ghosts 1 d) from by
    unfold G
    rw [show (Finset.univ : Finset (Fin 2)) = {0, 1} by decide, SparseCore.bigSep_insert' (by decide), bigSep_singleton]]
  iintro ⟨#Hctx, Hst, ⟨Hb, Hh, Hs, -⟩, HG0, HG1⟩
  ihave #Hl := (SparseCore.Cfg.ctx_levAts (K := K (F := F)) (EH := EH) (P := P (found m)) κ) $$ Hctx
  -- the targets, one row to a block
  iapply (wp_op (op := opT (F := F)) (by rw [StableHlo.reshape_bufs]; decide) rfl (entry m d) d)
  isplitl [Hb]; · iexact Hb
  isplitl [Hh]; · iexact Hh
  iintro ⟨Hb, Hh⟩
  -- the streaming pipeline: the row sums and the picked elements
  ihave H := (owing_out d 0) $$ Hst
  icases H with ⟨HO, Hst⟩
  iapply (wp_stream ((opT (F := F)).result (entry m d)) d)
  isplitl [Hst Hs HG1]
  swap
  · isplitl [Hb]; · iexact Hb
    isplitl [HO]; · iexact HO
    isplitl [Hh]; · iexact Hh
    isplitr; · iexact Hl
    iexact HG0
  iintro ⟨Hb, HO, Hh⟩
  -- both as flat arrays
  iapply (wp_op (op := opR (F := F)) (by rw [StableHlo.reshape_bufs]; decide) rfl _ d)
  isplitl [Hb]; · iexact Hb
  isplitl [Hh]; · iexact Hh
  iintro ⟨Hb, Hh⟩
  iapply (wp_op (op := opG (F := F)) (by rw [StableHlo.reshape_bufs]; decide) rfl _ d)
  isplitl [Hb]; · iexact Hb
  isplitl [Hh]; · iexact Hh
  iintro ⟨Hb, Hh⟩
  -- the call
  iapply (wp_call m κ d)
  isplitr; · iexact Hctx
  isplitl [HO Hst]
  · iapply Hst $$ HO
  isplitl [Hh]
  · rw [show mid m d = before (entry m d) from rfl, before]; iexact Hh
  iintro ⟨Hst, Hh⟩
  ihave H := (owing_out d 1) $$ Hst
  icases H with ⟨HO, Hst⟩
  -- the last pipeline, and its one element as a scalar
  iapply (wp_divide (called (mid m d)) d)
  isplitl [Hst Hs]
  swap
  · isplitl [Hb]; · iexact Hb
    isplitl [HO]; · iexact HO
    isplitl [Hh]; · iexact Hh
    isplitr; · iexact Hl
    iexact HG1
  iintro ⟨Hb, HO, Hh⟩
  iapply (wp_op (op := opO (F := F)) (by rw [StableHlo.reshape_bufs]; decide) rfl _ d)
  isplitl [Hb]; · iexact Hb
  isplitl [Hh]; · iexact Hh
  iintro ⟨Hb, Hh⟩
  imodintro
  isplitl [HO Hst]
  · iapply Hst $$ HO
  isplitl [Hh]
  · rw [show FIN m d = held (SparseCore.T d) ends (after (entry m d)) from rfl, after, ← show mid m d = before (entry m d) from rfl]
    have hsub : ends ⊆ arrays := by decide
    ihave H := (Entails.of_eq (StableHlo.held_sub_split (SparseCore.T d) hsub _)) $$ Hh
    icases H with ⟨Hh, -⟩
    iexact Hh
  isplitl [Hb] <;> iassumption

/-! ## The run -/

/-- What is read off a device's memory at the end. -/
def fq (d : Dev nD) (s' : Phys nD τ sig (Elt F)) : Prop :=
  s'.mem.mem (d, x') = m (d, x') ∧ s'.mem.mem (d, t') = m (d, t') ∧ s'.mem.mem (d, out') = final m d out'

/-- The two arguments are nowhere written. -/
theorem final_args (d : Dev nD) : final m d x' = m (d, x') ∧ final m d t' = m (d, t') := by
  constructor
  all_goals
    simp only [final, after, opO]
    rw [StableHlo.reshape_result_ne' _ _ _ _ _ (by decide), divided, Function.update_of_ne (by decide), called_of_ne _ (by decide), before]
    rw [StableHlo.reshape_result_ne' _ _ _ _ _ (by decide), StableHlo.reshape_result_ne' _ _ _ _ _ (by decide), streamed,
      Function.update_of_ne (by decide), Function.update_of_ne (by decide), StableHlo.reshape_result_ne' _ _ _ _ _ (by decide)]

/-- The result, from the arguments: the pipelines' row sums and picked elements as flat arrays, the partial sums of them, and the
last pipeline's one number. -/
def resultOf (x : S2048x32000.Idx → F .f32) (t : S2048.Idx → BitVec 32) : F .f32 :=
  combined (partials (shapeCast S2048 (rowSums x) shapeCasts_S16x1x128_S2048)
    (shapeCast S2048 (rowPicks x (shapeCast S16x1x128 t shapeCasts_S2048_S16x1x128)) shapeCasts_S16x1x128_S2048) t)

theorem final_out (d : Dev nD) : final m d out' = fun _ => resultOf (F := F) (m (d, x')) (m (d, t')) := by
  simp only [final, after, opO]
  rw [StableHlo.reshape_result, divided_q, called_parts, before, opG, StableHlo.reshape_result, StableHlo.reshape_result_ne' _ _ _ _ _ (by decide)]
  rw [StableHlo.reshape_result_ne' _ _ _ _ _ (r := main_arg1) (by decide), opR, StableHlo.reshape_result, StableHlo.reshape_result_ne' _ _ _ _ _ (r := main_v1_1) (by decide), StableHlo.reshape_result_ne' _ _ _ _ _ (r := main_arg1) (by decide),
    streamed_rs, streamed_g, show ∀ W : Valuation τ sig (Elt F), streamed W t' = W t' from fun W => by
      rw [streamed, Function.update_of_ne (by decide), Function.update_of_ne (by decide)],
    opT, StableHlo.reshape_result_ne' _ _ _ _ _ (r := main_arg0) (by decide), StableHlo.reshape_result_ne' _ _ _ _ _ (r := main_arg1) (by decide), StableHlo.reshape_result]
  rfl

theorem hfin (d : Dev nD) (s' : Phys nD τ sig (Elt F)) : iprop(FIN m d ∗ SI s') ⊢ (⌜fq m d s'⌝ : sProp (MM F)) := by
  unfold FIN StableHlo.held fq
  rw [SparseCore.bigSep_insert' (by decide), SparseCore.bigSep_insert' (by decide), bigSep_singleton, (final_args m d).1, (final_args m d).2]
  iintro ⟨⟨Hx, Ht, Ho⟩, HSI⟩
  ihave H := (persistent_entails_right (SI_pointsTo_agree (st := s') (ℓ := (d, x')) (I := Finset.univ) (q := fullShare) (f := m (d, x')))) $$ [HSI Hx]
  · isplitl [HSI] <;> iassumption
  icases H with ⟨%hx, HSI, -⟩
  ihave H := (persistent_entails_right (SI_pointsTo_agree (st := s') (ℓ := (d, t')) (I := Finset.univ) (q := fullShare) (f := m (d, t')))) $$ [HSI Ht]
  · isplitl [HSI] <;> iassumption
  icases H with ⟨%ht, HSI, -⟩
  ihave H := (SI_pointsTo_agree (st := s') (ℓ := (d, out')) (I := Finset.univ) (q := fullShare) (f := final m d out')) $$ [HSI Ho]
  · isplitl [HSI] <;> iassumption
  icases H with %ho
  ipureintro
  exact ⟨funext fun i => hx i (Finset.mem_univ i), funext fun i => ht i (Finset.mem_univ i), funext fun i => ho i (Finset.mem_univ i)⟩

/-- What every weakly fair run ends with: the arguments as they were, the result at its value, every semaphore at zero. -/
def QC (r : PUnit × MemSt nD τ sig (Elt F)) : Prop :=
  (∀ d : Dev nD, r.2.mem (d, x') = m (d, x') ∧ r.2.mem (d, t') = m (d, t') ∧ r.2.mem (d, out') = final m d out') ∧ r.2.sem = fun _ => 0

theorem run_main [∀ e, Nonempty (Elt F e)] :
    θ_run (defs (F := F)) (threads (F := F)) ⟨m, fun _ => 0, ρ⟩ (QC m) :=
  SparseCore.Cfg.θ_run_sc_quiescent (K := K) (D := D) (𝒱 := 𝒱) (EH := EH) (P := P (found m)) (A := ∅) scFacts v₀
    (fun q hq => match q with | 0 => nomatch hq) (fun q _ => match q with | 0 => tileObl (found m) scFacts)
    (fun q _ => match q with | 0 => SparseCore.Cfg.VecSplit.of_plain (vecSplit (found m)))
    m ρ main G (FIN m) u₀ (sep_elim_left.trans (hu₀ m)) (hmain m ρ) (fq m) (hfin m) (QC m) (fun _ h hz => ⟨h, hz⟩)

end Cert.Proof

end
-- ==== Proof.KernelFrame.lean ====
/-
  At the machine's own float words the printed kernel and its idealized text are one program: a named constant's word is
  the constant. The frame of the one is the frame of the other.
-/
module

public import proofs.«01_k».proof.Defs
public import proofs.«01_k».proof.Proof.Main
public import proofs.«01_k».proof.Proof.Gen.Kernel

@[expose] public section
noncomputable section
namespace Cert.Proof
open Idealize.ShloMosaic Idealize.SL.Sem

/-- At the machine's words a named constant is its word. -/
instance namedBits : Named Bits where
  named _ _ {φ} bits := Scalar.ofBits φ bits

set_option maxHeartbeats 4000000 in
theorem body1_eq : @Cert.Kernel.cc1__sc_body Bits _ Cert.Kernel.Gen.facts = @Cert.KernelIdeal.cc1__sc_body Bits _ _ Cert.KernelIdeal.Gen.facts := rfl

theorem tile_eq (c : Fin Cert.Kernel.τ.nSC) (s : Fin Cert.Kernel.τ.nSub) :
    Cert.Kernel.defs₀ (F := Bits) (.scVector c s) 1 () = Cert.KernelIdeal.defs₀ (F := Bits) (.scVector c s) 1 () := by
  have h₁ :
    Cert.Kernel.defs₀ (F := Bits) (.scVector c s) 1 ()
      = SparseCore.onTile Cert.Kernel.Facts₀.hcore1 Cert.Kernel.Facts₀.hsub1 (fun c s => Cert.Kernel.cc1__sc_body (F := Bits) (fun | 0 => c | 1 => s | ⟨_ + 2, h⟩ => absurd h (Nat.not_lt.2 (Nat.le_add_left _ _)))
          (Memref.whole Cert.Kernel.main_v2_scv) (Memref.isWhole_whole _) (Memref.whole Cert.Kernel.main_v3_scv) (Memref.isWhole_whole _)
          (Memref.whole Cert.Kernel.main_arg1_scv) (Memref.isWhole_whole _) (Memref.whole Cert.Kernel.main_v4_scv) (Memref.isWhole_whole _)
          (Memref.whole Cert.Kernel.cc1_scratch0) (Memref.isWhole_whole _) (Memref.whole Cert.Kernel.cc1_scratch1) (Memref.isWhole_whole _)
          (Memref.whole Cert.Kernel.cc1_scratch2) (Memref.isWhole_whole _) (Memref.whole Cert.Kernel.cc1_scratch3) (Memref.isWhole_whole _)
          Cert.Kernel.cc1_scoped0 Cert.Kernel.cc1_scoped1 Cert.Kernel.cc1_scoped2 Cert.Kernel.cc1_scoped3) ⟨⟩ c s := rfl
  have h₂ :
    Cert.KernelIdeal.defs₀ (F := Bits) (.scVector c s) 1 ()
      = SparseCore.onTile Cert.KernelIdeal.Facts₀.hcore1 Cert.KernelIdeal.Facts₀.hsub1 (fun c s => Cert.KernelIdeal.cc1__sc_body (F := Bits) (fun | 0 => c | 1 => s | ⟨_ + 2, h⟩ => absurd h (Nat.not_lt.2 (Nat.le_add_left _ _)))
          (Memref.whole Cert.KernelIdeal.main_v2_scv) (Memref.isWhole_whole _) (Memref.whole Cert.KernelIdeal.main_v3_scv) (Memref.isWhole_whole _)
          (Memref.whole Cert.KernelIdeal.main_arg1_scv) (Memref.isWhole_whole _) (Memref.whole Cert.KernelIdeal.main_v4_scv) (Memref.isWhole_whole _)
          (Memref.whole Cert.KernelIdeal.cc1_scratch0) (Memref.isWhole_whole _) (Memref.whole Cert.KernelIdeal.cc1_scratch1) (Memref.isWhole_whole _)
          (Memref.whole Cert.KernelIdeal.cc1_scratch2) (Memref.isWhole_whole _) (Memref.whole Cert.KernelIdeal.cc1_scratch3) (Memref.isWhole_whole _)
          Cert.KernelIdeal.cc1_scoped0 Cert.KernelIdeal.cc1_scoped1 Cert.KernelIdeal.cc1_scoped2 Cert.KernelIdeal.cc1_scoped3) ⟨⟩ c s := rfl
  refine h₁.trans (Eq.trans ?_ h₂.symm)
  rw [body1_eq]
  rfl

theorem defs₀_eq : @Cert.Kernel.defs₀ Bits _ Cert.Kernel.Gen.facts = @Cert.KernelIdeal.defs₀ Bits _ _ Cert.KernelIdeal.Gen.facts := by
  funext p l a
  rcases p with _ | _ | ⟨c, s⟩
  · match l with
    | 0 => rfl
    | 1 => rfl
    | 2 => rfl
  · match l with
    | 0 => rfl
    | 1 => rfl
    | 2 => rfl
  · match l with
    | 0 => rfl
    | 1 => exact tile_eq c s
    | 2 => rfl

theorem defs_eq : @Cert.Kernel.defs Bits _ Cert.Kernel.Gen.facts = @Cert.KernelIdeal.defs Bits _ _ Cert.KernelIdeal.Gen.facts := by
  unfold Cert.Kernel.defs Cert.KernelIdeal.defs
  rw [defs₀_eq]
  rfl

set_option maxHeartbeats 4000000 in
theorem main_eq : Cert.Kernel.main (F := Bits) = Cert.KernelIdeal.main (F := Bits) := by
  funext d
  unfold Cert.Kernel.main Cert.KernelIdeal.main
  rfl

set_option maxHeartbeats 4000000 in
theorem threads_eq : Cert.Kernel.threads (F := Bits) = Cert.KernelIdeal.threads (F := Bits) := by
  show Cert.Kernel.sc.threads Cert.Kernel.main = Cert.KernelIdeal.sc.threads Cert.KernelIdeal.main
  rw [main_eq]
  rfl

/-- A run's property carried along equal programs. -/
theorem run_of_eq {nD : ℕ} {τ : Topo} {sig : RefSig} {Val : EltTy → Type} {Λ : Labels} {D D' : Defs nD τ sig Val Λ} (e : D = D')
    {T T' : (c : Thread nD τ) → Prog (TpuEff nD τ sig Val Λ c.2) PUnit} (e' : T = T') {σ Q} (h : θ_run D' T' σ Q) : θ_run D T σ Q := by
  subst e e'; exact h

/-- The idealized text's frame, at the machine's words. -/
theorem frame_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (Cert.KernelIdeal.threads (F := Bits)) ⟨m, fun _ => 0, ρ⟩ (fun r => (∀ c : Dev Cert.KernelIdeal.nD,
      r.2.mem (c, x') = m (c, x') ∧ r.2.mem (c, t') = m (c, t')) ∧ r.2.sem = fun _ => 0) :=
  (θ_run (Cert.KernelIdeal.defs (F := Bits)) _ _).mono (fun _ h => ⟨fun c => ⟨(h.1 c).1, (h.1 c).2.1⟩, h.2⟩) (run_main (F := Bits) m ρ)

theorem frame_kernel : Cert.quiescent_Kernel := fun m ρ _ => run_of_eq defs_eq threads_eq (frame_bits m ρ)

end Cert.Proof

end
-- ==== Proof.Reference.lean ====
/-
  The reference's run: a line of array operations, so its result is their composed term.
-/
module

public import proofs.«01_k».proof.Defs
public import proofs.«01_k».proof.Proof.Gen.ReferenceIdeal
public import Idealize.ShloMosaic.Lib.Claim
public import Idealize.ShloMosaic.Lib.StableHlo.RunHlo
public import Idealize.ShloMosaic.Lib.StableHlo.RunRead

@[expose] public section
noncomputable section
namespace Cert.Proof.Ref
open Idealize.ShloMosaic Idealize.SL.Sem
open Cert.ReferenceIdeal

/-! ## The operations, composed -/

/-- The smoothing, the weight of a target, and that of any other column. -/
abbrev smoothing : S_.Idx → Ideal .f32 := Host.divf (constant (F := Ideal) S_ .f32 0x3F800000#32) (constant (F := Ideal) S_ .f32 0x41200000#32)
abbrev confidence : S_.Idx → Ideal .f32 := subf (constant (F := Ideal) S_ .f32 0x3F800000#32) smoothing
abbrev spread : S_.Idx → Ideal .f32 := Host.divf smoothing (constant (F := Ideal) S_ .f32 0x46F9FE00#32)

/-- One number for every row. -/
abbrev rowsI (w : BitVec 32) : S2048.Idx → BitVec 32 := broadcastInDim S2048 ![] Facts₀.bcast_S_S2048 (constantI S_ 32 w)

/-- The rows counted, and their number. -/
abbrev mask (t : S2048.Idx → BitVec 32) : S2048.Idx → BitVec 1 := cmpi .ne t (rowsI 0#32)
abbrev tokens (t : S2048.Idx → BitVec 32) : S_.Idx → Ideal .f32 :=
  sitofp .f32 (Host.reduce IntOp.addi (extui 32 (mask t) Facts₀.natLt_1_32) (constantI S_ 32 0#32) Facts₀.reducesTo_S2048_S_d0 Facts₀.h_S_)

/-- Where each row's target is written: the row and the column, each counted from the end if negative. -/
abbrev tgt (t : S2048.Idx → BitVec 32) : S2048.Idx → BitVec 32 := select (mask t) t (rowsI 0#32)
abbrev wrapped (n : BitVec 32) (i : S2048.Idx → BitVec 32) : S2048.Idx → BitVec 32 := select (cmpi .slt i (rowsI 0#32)) (addi i (rowsI n)) i
abbrev places (t : S2048.Idx → BitVec 32) : S2048x2.Idx → BitVec 32 :=
  concatenate S2048x2 1
    [⟨S2048x1, broadcastInDim S2048x1 ![0] Facts₀.bcast_S2048_S2048x1_0 (wrapped 2048#32 (iotaInDim S2048 32 0))⟩,
      ⟨S2048x1, broadcastInDim S2048x1 ![0] Facts₀.bcast_S2048_S2048x1_0 (wrapped 32000#32 (tgt t))⟩]
    Facts₀.concatenates_S2048x1_S2048x1_S2048x2_d1

/-- The smoothed targets, and every element's term of the sum. -/
abbrev dist (t : S2048.Idx → BitVec 32) : S2048x32000.Idx → Ideal .f32 :=
  Host.scatter scatter_S2048x32000_S2048x2_S2048_n_01_01_1 (fun _ b => b) (broadcastInDim S2048x32000 ![] Facts₀.bcast_S_S2048x32000 spread)
    (places t) (broadcastInDim S2048 ![] Facts₀.bcast_S_S2048 confidence)
abbrev terms (x : S2048x32000.Idx → Ideal .f32) (t : S2048.Idx → BitVec 32) : S2048x32000.Idx → Ideal .f32 :=
  select (broadcastInDim S2048x32000 ![0, 1] Facts₀.bcast_S2048x1_S2048x32000_0_1 (broadcastInDim S2048x1 ![0] Facts₀.bcast_S2048_S2048x1_0 (mask t)))
    (mulf (dist t) (subf (Host.log (dist t)) x))
    (broadcastInDim S2048x32000 ![] Facts₀.bcast_S_S2048x32000 (constant (F := Ideal) S_ .f32 0x00000000#32))

/-- The result. -/
abbrev value (x : S2048x32000.Idx → Ideal .f32) (t : S2048.Idx → BitVec 32) : S_.Idx → Ideal .f32 :=
  Host.divf (Host.reduceAdd (terms x t) (constant (F := Ideal) S_ .f32 0x00000000#32) Facts₀.reducesTo_S2048x32000_S_d0_1 Facts₀.h_S_) (tokens t)

/-! ## The run -/

set_option maxHeartbeats 4000000 in
theorem run_main (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v33) = value (m ((c.tc : Thread nD τ).loc main_arg0)) (m ((c.tc : Thread nD τ).loc main_arg1))) := by
  run_from (StableHlo.run_hlo _ _ (by unfold main fn_where.body fn_where_0.body; simp only [bind_assoc, pure_bind]; hlo_seq) (by decide) (by decide) (by simp)
      (by intro _ h; (repeat (cases h with | head => rfl | tail _ h => ?_)); exact nomatch h) _ _)
  all_goals rfl

end Cert.Proof.Ref

end
-- ==== Proof.Frames.lean ====
/-
  The frames of the idealized kernel and of the reference, which are their runs read at the arguments, and the named
  constants.
-/
module

public import proofs.«01_k».proof.Defs
public import proofs.«01_k».proof.Proof.Main
public import proofs.«01_k».proof.Proof.Reference
public import proofs.«01_k».proof.Proof.Gen.Pre_in_range
public import Idealize.ShloMosaic.Lib.Quiescent

@[expose] public section
noncomputable section
namespace Cert.Proof
open Idealize.ShloMosaic Idealize.SL.Sem

theorem frame_ideal : Cert.quiescent_KernelIdeal := fun m ρ _ =>
  (θ_run (Cert.KernelIdeal.defs (F := Ideal)) _ _).mono (fun _ h => ⟨fun c => ⟨(h.1 c).1, (h.1 c).2.1⟩, h.2⟩) (run_main (F := Ideal) m ρ)

theorem frame_ideal_pre : Cert.quiescent_KernelIdeal_pre_in_range := fun m ρ _ => frame_ideal m ρ trivial

theorem frame_reference : Cert.quiescent_ReferenceIdeal := fun m ρ _ =>
  (θ_run (Cert.ReferenceIdeal.defs (F := Ideal)) _ _).mono
    (fun r h => ⟨fun c => ⟨(h c).1, (h c).2.1⟩, sem_eq_zero_of_no_sems (by decide) r.2⟩) (Ref.run_main m ρ)

theorem frame_reference_pre : Cert.quiescent_ReferenceIdeal_pre_in_range := fun m ρ _ => frame_reference m ρ trivial

/-- Each named constant's printed word goes to the real number that its name stands for. -/
theorem preserves : Cert.preserves_Kernel_KernelIdeal :=
  ⟨IdealRules.named_const.statement Cert.KernelIdeal.κ "eps_less_conf" .f32 0xBF666632#32 ((-28799 / 31999 : ℝ) : EReal) rfl,
   IdealRules.named_const.statement Cert.KernelIdeal.κ "eps" .f32 0x3651B8C5#32 ((1 / 319990 : ℝ) : EReal) rfl,
   IdealRules.named_const.statement Cert.KernelIdeal.κ "row_entropy" .f32 0xBFAE6413#32
     (((1 / 10) * (Real.log (387420489 / 319990000000000)) : ℝ) : EReal) rfl⟩

end Cert.Proof

end
-- ==== Proof.Rows.lean ====
/-
  What the loss is, in real numbers: one row's contribution, the number of rows counted, and the two facts about sums that
  the kernel's side and the reference's side share.
-/
module

public import Idealize.ShloMosaic.Lib.WordCmp
public import Mathlib.Data.EReal.Operations
public import Mathlib.Analysis.SpecialFunctions.Log.Basic
public import Mathlib.Algebra.BigOperators.Fin
public import Mathlib.Algebra.BigOperators.Ring.Finset

@[expose] public section

noncomputable section

namespace Cert.Proof

open Idealize.ShloMosaic Idealize.ShloMosaic.WordCmp

/-- A choice by whether two words differ. -/
theorem select_ne {α : Type} (a b : BitVec 32) (x y : α) : Scalar.select (IntOp.cmpi .ne a b) x y = if a = b then y else x := by
  rw [cmpi_ne_eq, select_decide, ite_not]

/-- A sum of reals, as extended reals, is the sum as a real. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The weight of a column other than the target, and the target's less than it. -/
abbrev epsR : ℝ := 1 / 319990
abbrev lessR : ℝ := -28799 / 31999
/-- What a counted row's weights come to, each times its logarithm. -/
abbrev entropyR : ℝ := 1 / 10 * Real.log (387420489 / 319990000000000)

/-- The weights' logarithms, each times its weight, summed over a row: all columns but the target one weight, the target the other. -/
theorem entropy_eq : (31999 : ℝ) * (epsR * Real.log epsR) + 9 / 10 * Real.log (9 / 10) = entropyR := by
  have e : (387420489 / 319990000000000 : ℝ) = epsR * (9 / 10) ^ 9 := by norm_num
  have h : (epsR : ℝ) ≠ 0 := by norm_num
  rw [show entropyR = 1 / 10 * Real.log (387420489 / 319990000000000) from rfl, e, Real.log_mul h (by norm_num), Real.log_pow]
  have : (31999 : ℝ) * (epsR * Real.log epsR) = 1 / 10 * Real.log epsR := by
    rw [← mul_assoc]; norm_num
  rw [this]
  push_cast
  ring

/-- A row's terms, summed: the entropy, the row's sum and its entry at the target. -/
theorem row_terms (X : Fin 32000 → ℝ) (c : Fin 32000) :
    (∑ j, (if j = c then (9 / 10 : ℝ) * (Real.log (9 / 10) - X j) else epsR * (Real.log epsR - X j)))
      = entropyR + (lessR * X c - epsR * ∑ j, X j) := by
  have h : ∀ j, (if j = c then (9 / 10 : ℝ) * (Real.log (9 / 10) - X j) else epsR * (Real.log epsR - X j))
      = epsR * (Real.log epsR - X j) + (if j = c then (9 / 10 : ℝ) * (Real.log (9 / 10) - X j) - epsR * (Real.log epsR - X j) else 0) := fun j => by
    split <;> ring
  rw [Finset.sum_congr rfl fun j _ => h j, Finset.sum_add_distrib, Finset.sum_ite_eq' Finset.univ c, if_pos (Finset.mem_univ c),
    ← Finset.mul_sum, Finset.sum_sub_distrib, Finset.sum_const, Finset.card_univ, Fintype.card_fin, ← entropy_eq,
    nsmul_eq_mul]
  push_cast
  have e : (lessR : ℝ) = epsR - 9 / 10 := by norm_num
  rw [e]
  ring

/-- A sum over the rows, taken tile by tile, lane by lane, group by group. -/
theorem sum_groups (f : ℕ → ℝ) : (∑ w : Fin 16, ∑ l : Fin 16, ∑ k ∈ Finset.range 8, f (128 * w.val + 16 * k + l.val)) = ∑ i : Fin 2048, f i.val := by
  have h : ∀ (a b : ℕ) (g : ℕ → ℝ), (∑ i : Fin (a * b), g i.val) = ∑ p : Fin a, ∑ q : Fin b, g (b * p.val + q.val) := fun a b g => by
    rw [← Fintype.sum_prod_type' (f := fun (p : Fin a) (q : Fin b) => g (b * p.val + q.val))]
    exact (Fintype.sum_equiv finProdFinEquiv _ _ fun p => congrArg g (Nat.add_comm _ _)).symm
  rw [h 16 128 f]
  refine Finset.sum_congr rfl fun w _ => ?_
  rw [h 8 16 fun n => f (128 * w.val + n), Finset.sum_comm, Finset.sum_range]
  exact Finset.sum_congr rfl fun l _ => Finset.sum_congr rfl fun k _ => by rw [Nat.add_assoc]

end Cert.Proof

end
-- ==== Proof.KernelValue.lean ====
/-
  What the idealized kernel's result is where every entry of the input is a real number: the number of rows counted times a
  row's entropy, and the rows' contributions, over the number of rows counted.
-/
module

public import proofs.«01_k».proof.Proof.Main
public import proofs.«01_k».proof.Proof.Rows
public import Idealize.ShloMosaic.Lib.Pointwise
public import Idealize.ShloMosaic.Lib.WordCmp

@[expose] public section

set_option maxRecDepth 16384

noncomputable section

namespace Cert.Proof

open Idealize.ShloMosaic Idealize.ShloMosaic.WordCmp Cert.KernelIdeal Cert.KernelIdeal.Gen

/-- The input whose entries are the reals `X`. -/
def ofReals (X : Fin 2048 → Fin 32000 → ℝ) : S2048x32000.Idx → Ideal .f32 := fun i => ((X (i 0) (i 1) : ℝ) : EReal)

/-- Row `i`'s entry at its target. -/
def pick (X : Fin 2048 → Fin 32000 → ℝ) (t : S2048.Idx → BitVec 32) (i : Fin 2048) : ℝ :=
  ∑ c : Fin 32000, if BitVec.ofNat 32 c.val = t (ix1 i) then X i c else 0

/-- What row `i` contributes besides its entropy, and how it is counted. -/
def gain (X : Fin 2048 → Fin 32000 → ℝ) (t : S2048.Idx → BitVec 32) (i : Fin 2048) : ℝ :=
  if t (ix1 i) = 0#32 then 0 else lessR * pick X t i - epsR * ∑ c, X i c
def counted (t : S2048.Idx → BitVec 32) (i : Fin 2048) : ℝ := if t (ix1 i) = 0#32 then 0 else 1

theorem inPl_eq (j : Fin 128) : inPl j = ix3 0 0 j := by funext a; fin_cases a <;> rfl

/-- A block's row sums and entries at the targets. -/
theorem sum_block (x : S128x32000.Idx → Ideal .f32) (j : Fin 128) : k0_pay1 (F := Ideal) x (inPl j) = ∑ c : Fin 32000, x (ix2 j c) := by
  rw [inPl_eq]; pointwise [k0_pay1]

theorem pick_block (x : S128x32000.Idx → Ideal .f32) (t : S1x1x128.Idx → BitVec 32) (j : Fin 128) :
    k0_pay2 (F := Ideal) x t (inPl j) = ∑ c : Fin 32000, if BitVec.ofNat 32 c.val = t (inPl j) then x (ix2 j c) else 0 := by
  rw [inPl_eq]
  pointwise [k0_pay2]
  refine Finset.sum_congr rfl fun c _ => ?_
  rw [cmpi_eq_eq, select_decide]

/-- The block and the place in it that row `i` is in. -/
def blk (i : Fin 2048) : Fin 16 := ⟨i.val / 128, by omega⟩
def inBlk (i : Fin 2048) : Fin 128 := ⟨i.val % 128, by omega⟩

theorem row_blk (i : Fin 2048) : row (blk i) (inBlk i) = i := Fin.ext (Nat.div_add_mod i.val 128)

theorem rows_at {α : Type} (x : S2048x32000.Idx → α) (i : Fin 2048) (c : Fin 32000) : rowsOf x (blk i) (ix2 (inBlk i) c) = x (atX i c) :=
  congrArg (fun r => x (atX r c)) (row_blk i)

theorem flat_at {α : Type} (v : S16x1x128.Idx → α) (i : Fin 2048) : shapeCast S2048 v shapeCasts_S16x1x128_S2048 (ix1 i) = v (ix3 (blk i) 0 (inBlk i)) := by
  pointwise; rfl

theorem plane_at {α : Type} (t : S2048.Idx → α) (i : Fin 2048) : planeOf (shapeCast S16x1x128 t shapeCasts_S2048_S16x1x128) (blk i) (inPl (inBlk i)) = t (ix1 i) := by
  have e : atPl (blk i) (inBlk i) = ix3 (blk i) 0 (inBlk i) := by funext a; fin_cases a <;> rfl
  show shapeCast S16x1x128 t shapeCasts_S2048_S16x1x128 (atPl (blk i) (inBlk i)) = _
  rw [e, ← flat_at (shapeCast S16x1x128 t shapeCasts_S2048_S16x1x128) i]
  pointwise

theorem sums_flat (X : Fin 2048 → Fin 32000 → ℝ) (i : Fin 2048) :
    shapeCast S2048 (rowSums (F := Ideal) (ofReals X)) shapeCasts_S16x1x128_S2048 (ix1 i) = ((∑ c, X i c : ℝ) : EReal) := by
  rw [flat_at]
  refine (sum_block (rowsOf (ofReals X) (blk i)) (inBlk i)).trans ?_
  rw [← coe_sum]
  exact Finset.sum_congr rfl fun c _ => rows_at (ofReals X) i c

theorem picks_flat (X : Fin 2048 → Fin 32000 → ℝ) (t : S2048.Idx → BitVec 32) (i : Fin 2048) :
    shapeCast S2048 (rowPicks (F := Ideal) (ofReals X) (shapeCast S16x1x128 t shapeCasts_S2048_S16x1x128)) shapeCasts_S16x1x128_S2048 (ix1 i)
      = ((pick X t i : ℝ) : EReal) := by
  rw [flat_at]
  refine (pick_block (rowsOf (ofReals X) (blk i)) (planeOf (shapeCast S16x1x128 t shapeCasts_S2048_S16x1x128) (blk i)) (inBlk i)).trans ?_
  rw [pick, ← coe_sum]
  refine Finset.sum_congr rfl fun c _ => ?_
  rw [plane_at, rows_at]
  split <;> rfl

/-- The tiles' partial sums, added up. -/
theorem combined_eq (p : S16x2x16.Idx → Ideal .f32) :
    combined (F := Ideal) p = Ideal.div ((entropyR : EReal) * (∑ w : Fin 16, ∑ l : Fin 16, p (ix3 w 1 l)) + ∑ w : Fin 16, ∑ l : Fin 16, p (ix3 w 0 l))
      (∑ w : Fin 16, ∑ l : Fin 16, p (ix3 w 1 l)) := by
  pointwise [combined, k2_pay1]
  rfl

/-- The row that lane `l` of tile `w`'s group `k` is. -/
def laneRow (w k : ℕ) (l : Fin 16) : Fin 2048 := ⟨(128 * w + 16 * k + l.val) % 2048, Nat.mod_lt _ (by decide)⟩

theorem group_at {α : Type} (f : S2048.Idx → α) (w k : ℕ) (l : Fin 16) : group f w (16 * k) (lane l) = f (ix1 (laneRow w k l)) := by
  refine congrArg f ?_
  funext a; fin_cases a; rfl

/-- A tile's running contribution and count, lane by lane. -/
theorem accN_eq (X : Fin 2048 → Fin 32000 → ℝ) (t : S2048.Idx → BitVec 32) (rs g : S2048.Idx → Ideal .f32)
    (hr : ∀ i, rs (ix1 i) = ((∑ c, X i c : ℝ) : EReal)) (hg : ∀ i, g (ix1 i) = ((pick X t i : ℝ) : EReal)) (w n : ℕ) (l : Fin 16) :
    accN (F := Ideal) rs g t w n (lane l) = ((∑ k ∈ Finset.range n, gain X t (laneRow w k l) : ℝ) : EReal) := by
  induction n with
  | zero => pointwise [accN, runN]; simp
  | succ n ih =>
    rw [Finset.sum_range_succ, EReal.coe_add, ← ih]
    show _ + contribOf _ _ _ (lane l) = _
    congr 1
    pointwise [contribOf, live]
    rw [select_ne, group_at, group_at, group_at, hr, hg, gain]
    split
    · rfl
    · rw [EReal.coe_sub, EReal.coe_mul, EReal.coe_mul]; rfl

theorem accT_eq (t : S2048.Idx → BitVec 32) (w n : ℕ) (l : Fin 16) :
    accT (F := Ideal) t w n (lane l) = ((∑ k ∈ Finset.range n, counted t (laneRow w k l) : ℝ) : EReal) := by
  induction n with
  | zero => pointwise [accT, runT]; simp
  | succ n ih =>
    rw [Finset.sum_range_succ, EReal.coe_add, ← ih]
    show _ + countOf _ (lane l) = _
    congr 1
    pointwise [countOf, live]
    rw [select_ne, group_at, counted]
    split <;> rfl

/-- A sum over the lanes and the groups is a sum over the rows. -/
theorem sum_lanes (f : Fin 2048 → ℝ) :
    (∑ w : Fin 16, ∑ l : Fin 16, ((∑ k ∈ Finset.range 8, f (laneRow w.val k l) : ℝ) : EReal)) = ((∑ i, f i : ℝ) : EReal) := by
  simp only [coe_sum]
  refine congrArg _ ((sum_groups fun n => f ⟨n % 2048, Nat.mod_lt _ (by decide)⟩).trans ?_)
  exact Finset.sum_congr rfl fun i _ => congrArg f (Fin.ext (Nat.mod_eq_of_lt i.isLt))

/-- The kernel's result. -/
theorem kernel_value (X : Fin 2048 → Fin 32000 → ℝ) (t : S2048.Idx → BitVec 32) :
    resultOf (F := Ideal) (ofReals X) t
      = Ideal.div ((entropyR * (∑ i, counted t i) + ∑ i, gain X t i : ℝ) : EReal) ((∑ i, counted t i : ℝ) : EReal) := by
  rw [resultOf, combined_eq]
  have hn : ∀ w l : Fin 16, partials (F := Ideal) (shapeCast S2048 (rowSums (ofReals X)) shapeCasts_S16x1x128_S2048)
      (shapeCast S2048 (rowPicks (ofReals X) (shapeCast S16x1x128 t shapeCasts_S2048_S16x1x128)) shapeCasts_S16x1x128_S2048) t (ix3 w 0 l)
        = ((∑ k ∈ Finset.range 8, gain X t (laneRow w.val k l) : ℝ) : EReal) := fun w l =>
    (if_pos rfl).trans (accN_eq X t _ _ (sums_flat X) (picks_flat X t) w.val 8 l)
  have ht : ∀ w l : Fin 16, partials (F := Ideal) (shapeCast S2048 (rowSums (ofReals X)) shapeCasts_S16x1x128_S2048)
      (shapeCast S2048 (rowPicks (ofReals X) (shapeCast S16x1x128 t shapeCasts_S2048_S16x1x128)) shapeCasts_S16x1x128_S2048) t (ix3 w 1 l)
        = ((∑ k ∈ Finset.range 8, counted t (laneRow w.val k l) : ℝ) : EReal) := fun w l =>
    (if_neg Nat.one_ne_zero).trans (accT_eq t w.val 8 l)
  simp only [hn, ht, sum_lanes]
  rw [← EReal.coe_mul, ← EReal.coe_add]

end Cert.Proof

end
-- ==== Proof.InRange.lean ====
/-
  The precondition read: every entry of the input is a real number, and every target names a column.
-/
module

public import proofs.«01_k».proof.Defs
public import proofs.«01_k».proof.Proof.KernelValue
public import proofs.«01_k».proof.Proof.Gen.Pre_in_range
public import Idealize.ShloMosaic.Lib.ReduceAll
public import Idealize.ShloMosaic.Lib.WordCmp
public import Idealize.ShloMosaic.Lib.Pointwise

@[expose] public section

noncomputable section

namespace Cert.Proof

open Idealize.ShloMosaic Idealize.ShloMosaic.WordCmp

theorem infinity : Ideal.ofBits .f32 0x7F800000#32 = ⊤ := by simp [Ideal.ofBits, Ideal.ieee]

instance : Subsingleton Cert.Pre_in_range.S_.Idx := ⟨fun _ _ => funext fun a => a.elim0⟩

theorem andi_one {a b : BitVec 1} (h : IntOp.andi a b = 1#1) : a = 1#1 ∧ b = 1#1 := by
  revert a b; decide

theorem ofBool_one {p : Prop} [Decidable p] (h : BitVec.ofBool (decide p) = 1#1) : p := by
  by_contra hp; rw [decide_eq_false hp] at h; exact absurd h (by decide)

/-- What the precondition says, entry by entry. -/
theorem of_pre (x : Cert.Pre_in_range.S2048x32000.Idx → Ideal .f32) (t : Cert.Pre_in_range.S2048.Idx → BitVec 32)
    (h : Cert.Pre_in_range.fn (F := Ideal) x t = fun _ => 1#1) :
    (∀ i, max (x i) (-x i) < (⊤ : EReal)) ∧ ∀ i, (t i).toNat < 32000 := by
  have h0 := congrFun h ix0
  obtain ⟨h1, h2⟩ := andi_one h0
  obtain ⟨h3, h4⟩ := andi_one h1
  refine ⟨fun i => ?_, fun i => ?_⟩
  · have := Host.reduce_andi_all _ _ _ _ _ h3 i
    have e : BitVec.ofBool (decide (max (x i) (-x i) < Ideal.ofBits .f32 0x7F800000#32)) = 1#1 := this
    rw [infinity] at e
    exact ofBool_one e
  · have a : IntOp.cmpi .sge (t i) 0#32 = 1#1 := Host.reduce_andi_all _ _ _ _ _ h4 i
    have b : IntOp.cmpi .slt (t i) 32000#32 = 1#1 := Host.reduce_andi_all _ _ _ _ _ h2 i
    rw [cmpi_sge_eq] at a
    rw [cmpi_slt_eq] at b
    have a' := ofBool_one a
    have b' := ofBool_one b
    have z : (0#32).toInt = 0 := rfl
    have n : (32000#32).toInt = 32000 := rfl
    rw [z] at a'
    rw [n] at b'
    have := BitVec.toInt_eq_toNat_cond (t i)
    split at this <;> omega

/-- An extended real whose absolute value is below infinity is a real number. -/
theorem real_of_lt {a : EReal} (h : max a (-a) < ⊤) : a = ((a.toReal : ℝ) : EReal) := by
  refine (EReal.coe_toReal ?_ ?_).symm
  · rintro rfl; simp at h
  · rintro rfl; simp at h

/-- The input, as an array of reals. -/
theorem reals_of_pre (x : Cert.KernelIdeal.S2048x32000.Idx → Ideal .f32) (h : ∀ i, max (x i) (-x i) < (⊤ : EReal)) :
    x = ofReals fun i j => (x (ix2 i j)).toReal := by
  funext i
  obtain ⟨a, b, rfl⟩ : ∃ (a : Fin 2048) (b : Fin 32000), i = ix2 a b := ⟨i 0, i 1, eq_ix2 i⟩
  exact real_of_lt (h _)

end Cert.Proof

end
-- ==== Proof.RefRows.lean ====
/-
  The reference's terms, element by element: the smoothed targets, each element's term of the sum, and the number of rows
  counted, where every target names a column.
-/
module

public import proofs.«01_k».proof.Proof.Reference
public import proofs.«01_k».proof.Proof.Rows
public import Idealize.ShloMosaic.Lib.Pointwise
public import Idealize.ShloMosaic.Lib.WordCmp
public import Idealize.ShloMosaic.Lib.Routing.OpsSet
public import Idealize.ShloMosaic.Lib.Routing.OpsPair

@[expose] public section

set_option maxRecDepth 16384

noncomputable section

namespace Cert.Proof.Ref

open Idealize.ShloMosaic Idealize.ShloMosaic.WordCmp Cert.ReferenceIdeal

/-! ## The constants -/

theorem ten : Ideal.ofBits .f32 0x41200000#32 = ((10 : ℝ) : EReal) := by
  simp [Ideal.ofBits, Ideal.ieee, -EReal.coe_mul]; norm_num
theorem columns : Ideal.ofBits .f32 0x46F9FE00#32 = ((31999 : ℝ) : EReal) := by
  simp [Ideal.ofBits, Ideal.ieee, -EReal.coe_mul]; norm_num
theorem one : Ideal.ofBits .f32 0x3F800000#32 = ((1 : ℝ) : EReal) := Ideal.ofBits_one_f32.trans EReal.coe_one.symm

/-- A quotient of reals, the divisor not zero. -/
theorem div_coe (a b : ℝ) (h : b ≠ 0) : Ideal.div (a : EReal) (b : EReal) = ((a / b : ℝ) : EReal) := by
  rw [Ideal.div, if_neg (by exact_mod_cast h), ← EReal.coe_inv, ← EReal.coe_mul, div_eq_mul_inv]

theorem log_coe (a : ℝ) (h : 0 < a) : Ideal.log (a : EReal) = ((Real.log a : ℝ) : EReal) := by
  rw [Ideal.log_coe, if_neg (not_le.2 h)]

theorem smoothing_eq (i : S_.Idx) : smoothing i = ((1 / 10 : ℝ) : EReal) := by
  show Ideal.div (Ideal.ofBits .f32 0x3F800000#32) (Ideal.ofBits .f32 0x41200000#32) = _
  rw [one, ten, div_coe _ _ (by norm_num)]
theorem confidence_eq (i : S_.Idx) : confidence i = ((9 / 10 : ℝ) : EReal) := by
  show Ideal.ofBits .f32 0x3F800000#32 - smoothing i = _
  rw [one, smoothing_eq, ← EReal.coe_sub]; norm_num
theorem spread_eq (i : S_.Idx) : spread i = ((epsR : ℝ) : EReal) := by
  show Ideal.div (smoothing i) (Ideal.ofBits .f32 0x46F9FE00#32) = _
  rw [smoothing_eq, columns, div_coe _ _ (by norm_num)]; norm_num

/-! ## Where each row's target is written -/

theorem toInt_small (a : BitVec 32) (h : a.toNat < 32000) : a.toInt = (a.toNat : ℤ) := BitVec.toInt_eq_toNat_of_lt (by omega)

theorem places_row (t : S2048.Idx → BitVec 32) (i : Fin 2048) : (places t (ix2 i 0)).toInt = (i.val : ℤ) := by
  have h : (BitVec.ofNat 32 i.val).toNat = i.val := by rw [BitVec.toNat_ofNat]; exact Nat.mod_eq_of_lt (by omega)
  pointwise [places, wrapped, rowsI]
  rw [Routing.wrap_of_lt _ _ (by rw [h]; omega), toInt_small _ (by rw [h]; omega), h]

theorem places_col (t : S2048.Idx → BitVec 32) (i : Fin 2048) (h : (t (ix1 i)).toNat < 32000) : (places t (ix2 i 1)).toInt = ((t (ix1 i)).toNat : ℤ) := by
  have e : Scalar.select (IntOp.cmpi .ne (t (ix1 i)) 0#32) (t (ix1 i)) 0#32 = t (ix1 i) := by rw [select_ne]; split <;> simp_all
  pointwise [places, wrapped, rowsI, tgt, mask]
  rw [e, Routing.wrap_of_lt _ _ (by omega), toInt_small _ h]

/-- Update `k` is written at row `i`, column `j`, exactly when its two words name them. -/
theorem lands (idx : S2048x2.Idx → BitVec 32) (k i : Fin 2048) (j : Fin 32000) :
    scatter_S2048x32000_S2048x2_S2048_n_01_01_1.resultIdx? (ix1 k) idx = some (ix2 i j)
      ↔ (idx (ix2 k 0)).toInt = (i.val : ℤ) ∧ (idx (ix2 k 1)).toInt = (j.val : ℤ) := by
  refine (Routing.resultIdx?_ix2 (R := 2048) (C := 32000) scatter_S2048x32000_S2048x2_S2048_n_01_01_1 (ix1 k) idx i j).trans ?_
  have h0 : scatter_S2048x32000_S2048x2_S2048_n_01_01_1.siIdx (ix1 k) ⟨0, Nat.zero_lt_two⟩ = ix2 k 0 := by
    funext a; fin_cases a <;> rfl
  have h1 : scatter_S2048x32000_S2048x2_S2048_n_01_01_1.siIdx (ix1 k) ⟨1, Nat.one_lt_two⟩ = ix2 k 1 := by
    funext a; fin_cases a <;> rfl
  rw [← h0, ← h1]
  show (idx _).toInt + 0 = _ ∧ (idx _).toInt + 0 = _ ↔ _
  rw [Int.add_zero, Int.add_zero]
  rfl

/-- The smoothed targets. -/
theorem dist_eq (t : S2048.Idx → BitVec 32) (h : ∀ i, (t (ix1 i)).toNat < 32000) (i : Fin 2048) (j : Fin 32000) :
    dist t (ix2 i j) = ((if j.val = (t (ix1 i)).toNat then 9 / 10 else epsR : ℝ) : EReal) := by
  have hl : ∀ k : S2048.Idx, scatter_S2048x32000_S2048x2_S2048_n_01_01_1.resultIdx? k (places t) = some (ix2 i j) → j.val = (t (ix1 i)).toNat := fun k hk => by
    obtain ⟨k, rfl⟩ : ∃ q : Fin 2048, k = ix1 q := ⟨k 0, eq_ix1 k⟩
    rw [lands, places_row, places_col t k (h k)] at hk
    obtain rfl : k = i := Fin.ext (by exact_mod_cast hk.1)
    exact_mod_cast hk.2.symm
  by_cases hj : j.val = (t (ix1 i)).toNat
  · rw [if_pos hj]
    refine Routing.scatter_set_hit _ _ _ _ _ _ (fun k _ => ?_) (ix1 i) ?_
    · exact confidence_eq _
    · rw [lands, places_row, places_col t i (h i), hj]; exact ⟨rfl, rfl⟩
  · rw [if_neg hj]
    exact (Routing.scatter_set_miss _ _ _ _ _ fun k hk => hj (hl k hk)).trans (spread_eq _)

/-- Each element's term. -/
theorem terms_eq (X : Fin 2048 → Fin 32000 → ℝ) (x : S2048x32000.Idx → Ideal .f32) (hx : ∀ i j, x (ix2 i j) = ((X i j : ℝ) : EReal))
    (t : S2048.Idx → BitVec 32) (h : ∀ i, (t (ix1 i)).toNat < 32000) (i : Fin 2048) (j : Fin 32000) :
    terms x t (ix2 i j) = ((if t (ix1 i) = 0#32 then 0 else
      if j.val = (t (ix1 i)).toNat then 9 / 10 * (Real.log (9 / 10) - X i j) else epsR * (Real.log epsR - X i j) : ℝ) : EReal) := by
  have e : terms x t (ix2 i j) = Scalar.select (IntOp.cmpi .ne (t (ix1 i)) 0#32) (dist t (ix2 i j) * (Ideal.log (dist t (ix2 i j)) - x (ix2 i j))) 0 := by
    pointwise [terms, mask, rowsI]
  rw [e, select_ne, dist_eq t h, hx]
  split
  · rfl
  · split
    · rw [log_coe _ (by norm_num), ← EReal.coe_sub, ← EReal.coe_mul]
    · rw [log_coe _ (by norm_num), ← EReal.coe_sub, ← EReal.coe_mul]

theorem list_sum (f : ℕ → ℕ) (n : ℕ) : ((List.range n).map f).sum = ∑ k : Fin n, f k.val := by
  induction n with
  | zero => rfl
  | succ n ih => rw [List.range_succ, List.map_append, List.sum_append, ih, Fin.sum_univ_castSucc]; simp

/-- The number of rows counted. -/
theorem tokens_eq (t : S2048.Idx → BitVec 32) (i : S_.Idx) : tokens t i = ((∑ i, if t (ix1 i) = 0#32 then (0 : ℝ) else 1 : ℝ) : EReal) := by
  set f : ℕ → ℕ := fun n => if t (ix1 ⟨n % 2048, Nat.mod_lt _ (by decide)⟩) = 0#32 then 0 else 1 with hf
  have hk : ∀ k : Fin 2048, f k.val = if t (ix1 k) = 0#32 then 0 else 1 := fun k => by
    rw [hf]; dsimp only; rw [show (⟨k.val % 2048, Nat.mod_lt _ (by decide)⟩ : Fin 2048) = k from Fin.ext (Nat.mod_eq_of_lt k.isLt)]
  have e := Routing.reduce_sum (N := 2048) (extui 32 (mask t) Facts₀.natLt_1_32) f (fun k => by
      rw [hk]
      show (IntOp.cmpi .ne (t (ix1 k)) 0#32).setWidth 32 = _
      rw [cmpi_ne_eq]
      by_cases h0 : t (ix1 k) = 0#32 <;> simp [h0])
    Facts₀.reducesTo_S2048_S_d0 Facts₀.h_S_
  have hs : ((List.range 2048).map f).sum = ∑ k : Fin 2048, f k.val := list_sum f 2048
  have hb : (∑ k : Fin 2048, f k.val) ≤ 2048 := by
    refine (Finset.sum_le_card_nsmul _ _ 1 fun k _ => ?_).trans (by simp)
    rw [hk]; split <;> omega
  have hi : i = ix0 := funext fun a => a.elim0
  subst hi
  have e' : tokens t ix0 = (((BitVec.ofNat 32 (∑ k : Fin 2048, f k.val)).toInt : ℝ) : EReal) := by
    rw [← hs, ← e]; rfl
  rw [e', BitVec.toInt_eq_toNat_of_lt (by rw [BitVec.toNat_ofNat]; omega), BitVec.toNat_ofNat, Nat.mod_eq_of_lt (by omega)]
  push_cast
  refine congrArg _ (Finset.sum_congr rfl fun k _ => ?_)
  rw [hk]; split <;> norm_num

/-- The sum of the terms. -/
theorem sum_eq (x : S2048x32000.Idx → Ideal .f32) (t : S2048.Idx → BitVec 32) :
    value x t ix0 = Ideal.div (∑ i : Fin 2048, ∑ j : Fin 32000, terms x t (ix2 i j)) (tokens t ix0) := by
  show Ideal.div (Host.reduceAdd (terms x t) (constant (F := Ideal) S_ .f32 0x00000000#32) Facts₀.reducesTo_S2048x32000_S_d0_1 Facts₀.h_S_ ix0) _ = _
  generalize terms x t = v
  generalize tokens t ix0 = n
  pointwise

end Cert.Proof.Ref

end
-- ==== Proof.Equation.lean ====
/-
  The equation: where the input's entries are real numbers and every target names a column, the idealized kernel and the
  reference give one result.
-/
module

public import proofs.«01_k».proof.Proof.InRange
public import proofs.«01_k».proof.Proof.RefRows

@[expose] public section

set_option maxRecDepth 16384

noncomputable section

namespace Cert.Proof

open Idealize.ShloMosaic Idealize.SL.Sem

/-- A row's entry at its target: the one column whose number the target is. -/
theorem pick_eq (X : Fin 2048 → Fin 32000 → ℝ) (t : Cert.KernelIdeal.S2048.Idx → BitVec 32) (i : Fin 2048) (h : (t (ix1 i)).toNat < 32000) :
    pick X t i = X i ⟨(t (ix1 i)).toNat, h⟩ := by
  have e : ∀ c : Fin 32000, (BitVec.ofNat 32 c.val = t (ix1 i)) ↔ c = ⟨(t (ix1 i)).toNat, h⟩ := fun c => by
    rw [← BitVec.toNat_inj, BitVec.toNat_ofNat, Nat.mod_eq_of_lt (by omega), Fin.ext_iff]
  simp only [pick, e]
  rw [Finset.sum_ite_eq' Finset.univ, if_pos (Finset.mem_univ _)]

/-- A row's terms, summed: nothing of a row of padding, else its entropy and its contribution. -/
theorem row_eq (X : Fin 2048 → Fin 32000 → ℝ) (t : Cert.KernelIdeal.S2048.Idx → BitVec 32) (i : Fin 2048) (h : (t (ix1 i)).toNat < 32000) :
    (∑ j : Fin 32000, if t (ix1 i) = 0#32 then (0 : ℝ) else
      if j.val = (t (ix1 i)).toNat then 9 / 10 * (Real.log (9 / 10) - X i j) else epsR * (Real.log epsR - X i j))
      = entropyR * counted t i + gain X t i := by
  rw [counted, gain]
  split
  · simp
  · rw [pick_eq X t i h, mul_one, ← row_terms]
    exact Finset.sum_congr rfl fun j _ => if_congr (Fin.ext_iff (b := ⟨_, h⟩)).symm rfl rfl

/-- The reference's result. -/
theorem reference_value (X : Fin 2048 → Fin 32000 → ℝ) (t : Cert.KernelIdeal.S2048.Idx → BitVec 32) (h : ∀ i, (t (ix1 i)).toNat < 32000) :
    Ref.value (ofReals X) t ix0
      = Ideal.div ((entropyR * (∑ i, counted t i) + ∑ i, gain X t i : ℝ) : EReal) ((∑ i, counted t i : ℝ) : EReal) := by
  have e : (∑ i : Fin 2048, ∑ j : Fin 32000, Ref.terms (ofReals X) t (ix2 i j)) = ((entropyR * (∑ i, counted t i) + ∑ i, gain X t i : ℝ) : EReal) := by
    simp only [Ref.terms_eq X (ofReals X) (fun _ _ => rfl) t h, coe_sum]
    rw [Finset.mul_sum, ← Finset.sum_add_distrib]
    exact congrArg Real.toEReal (Finset.sum_congr rfl fun i _ => row_eq X t i (h i))
  rw [Ref.sum_eq, Ref.tokens_eq, e]
  rfl

/-- The two results are one. -/
theorem result_eq (x : Cert.KernelIdeal.S2048x32000.Idx → Ideal .f32) (t : Cert.KernelIdeal.S2048.Idx → BitVec 32)
    (h : Cert.Pre_in_range.fn (F := Ideal) x t = fun _ => 1#1) : Ref.value x t = fun _ => resultOf (F := Ideal) x t := by
  obtain ⟨hx, ht⟩ := of_pre x t h
  rw [reals_of_pre x hx]
  funext i
  obtain rfl : i = ix0 := funext fun a => a.elim0
  exact (reference_value _ t fun i => ht _).trans (kernel_value _ t).symm

theorem algebraic : Cert.algebraic_KernelIdeal_ReferenceIdeal_pre_in_range := by
  intro m ρ m' ρ' hpre hargs
  refine ⟨fun c => fun _ => resultOf (F := Ideal) (m (c, x')) (m (c, t')), ?_, ?_⟩
  · exact (θ_run (Cert.KernelIdeal.defs (F := Ideal)) _ _).mono
      (fun r h c => ⟨(h.1 c).2.2.trans (final_out m c), (h.1 c).1, (h.1 c).2.1⟩) (run_main (F := Ideal) m ρ)
  · refine (θ_run (Cert.ReferenceIdeal.defs (F := Ideal)) _ _).mono (fun r h c => ⟨(h c).2.2.trans ?_, (h c).1, (h c).2.1⟩) (Ref.run_main m' ρ')
    rw [(hargs c).1, (hargs c).2]
    exact result_eq _ _ (hpre c)

end Cert.Proof

end
-- ==== Proof.lean ====
module

public import proofs.«01_k».proof.Defs
public import proofs.«01_k».proof.Proof.KernelFrame
public import proofs.«01_k».proof.Proof.Frames
public import proofs.«01_k».proof.Proof.Equation

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    frame_kernel, frame_ideal, frame_ideal_pre, frame_reference, frame_reference_pre, preserves, algebraic⟩

end Cert.Proof

end
